-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v73) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x8448x12x64 : Shape := ⟨4, ![4, 8448, 12, 64]⟩
abbrev S4x8448x4x64 : Shape := ⟨4, ![4, 8448, 4, 64]⟩
abbrev S64 : Shape := ⟨1, ![64]⟩
abbrev S_ : Shape := ⟨0, ![]⟩

class Facts : Prop where
  bcast_S_S4x8448x12x64 : S_.BroadcastsInDim S4x8448x12x64 (![] : Fin 0 → Fin S4x8448x12x64.rank)
  reducesTo_S4x8448x12x64_S_d0_1_2_3 : S4x8448x12x64.ReducesTo [0, 1, 2, 3] S_
  h_S_ : 0 < S_.numel
  bcast_S_S4x8448x4x64 : S_.BroadcastsInDim S4x8448x4x64 (![] : Fin 0 → Fin S4x8448x4x64.rank)
  reducesTo_S4x8448x4x64_S_d0_1_2_3 : S4x8448x4x64.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x8448x12x64 .f32) (main_arg1 : FVec F S4x8448x4x64 .f32) (main_arg2 : FVec F S4x8448x4x64 .f32) (main_arg3 : FVec F S64 .f32) (main_arg4 : FVec F S64 .f32) : IVec S_ 1 :=
  let main_v0 : FVec F S4x8448x12x64 .f32 := Host.absf main_arg0
  let main_cst : FVec F S_ .f32 := constant S_ .f32 0x7F800000#32
  let main_v1 : FVec F S4x8448x12x64 .f32 := broadcastInDim S4x8448x12x64 ![] bcast_S_S4x8448x12x64 main_cst
  let main_v2 : IVec S4x8448x12x64 1 := cmpf .olt main_v0 main_v1
  let main_c : IVec S_ 1 := constantI S_ 1 1#1
  let main_v3 : IVec S_ 1 := (fun x v => Host.reduce IntOp.andi x v reducesTo_S4x8448x12x64_S_d0_1_2_3 h_S_) main_v2 main_c
  let main_v4 : FVec F S4x8448x4x64 .f32 := Host.absf main_arg1
  let main_cst_0 : FVec F S_ .f32 := constant S_ .f32 0x7F800000#32
  let main_v5 : FVec F S4x8448x4x64 .f32 := broadcastInDim S4x8448x4x64 ![] bcast_S_S4x8448x4x64 main_cst_0
  let main_v6 : IVec S4x8448x4x64 1 := cmpf .olt main_v4 main_v5
  let main_c_1 : IVec S_ 1 := constantI S_ 1 1#1
  let main_v7 : IVec S_ 1 := (fun x v => Host.reduce IntOp.andi x v reducesTo_S4x8448x4x64_S_d0_1_2_3 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x8448x12x64 : Shape := ⟨4, ![4, 8448, 12, 64]⟩
abbrev S4x8448x4x64 : Shape := ⟨4, ![4, 8448, 4, 64]⟩
abbrev S64 : Shape := ⟨1, ![64]⟩
abbrev S_ : Shape := ⟨0, ![]⟩
abbrev S8x256 : Shape := ⟨2, ![8, 256]⟩
abbrev S1 : Shape := ⟨1, ![1]⟩
abbrev S256 : Shape := ⟨1, ![256]⟩
abbrev S4x8448x12x256 : Shape := ⟨4, ![4, 8448, 12, 256]⟩
abbrev S4x8448x3072 : Shape := ⟨3, ![4, 8448, 3072]⟩
abbrev S4x33x256x4x64 : Shape := ⟨5, ![4, 33, 256, 4, 64]⟩
abbrev S4x33x4x64x256 : Shape := ⟨5, ![4, 33, 4, 64, 256]⟩
abbrev S4x33x4x256x256 : Shape := ⟨5, ![4, 33, 4, 256, 256]⟩
abbrev S4x33x1024x256 : Shape := ⟨4, ![4, 33, 1024, 256]⟩
abbrev S4x8448x4x128 : Shape := ⟨4, ![4, 8448, 4, 128]⟩
abbrev S4x4x8448x128 : Shape := ⟨4, ![4, 4, 8448, 128]⟩
abbrev S4x8448x768 : Shape := ⟨3, ![4, 8448, 768]⟩
abbrev S1x256x3072 : Shape := ⟨3, ![1, 256, 3072]⟩
abbrev S1x33x1024x256 : Shape := ⟨4, ![1, 33, 1024, 256]⟩
abbrev S1x4x8448x128 : Shape := ⟨4, ![1, 4, 8448, 128]⟩
abbrev S1x256x768 : Shape := ⟨3, ![1, 256, 768]⟩
abbrev S1x768x128 : Shape := ⟨3, ![1, 768, 128]⟩
abbrev S4x768x128 : Shape := ⟨3, ![4, 768, 128]⟩
abbrev S1x256 : Shape := ⟨2, ![1, 256]⟩
abbrev S1x256x256 : Shape := ⟨3, ![1, 256, 256]⟩
abbrev S256x256 : Shape := ⟨2, ![256, 256]⟩
abbrev S768x256 : Shape := ⟨2, ![768, 256]⟩
abbrev S1x1x256x256 : Shape := ⟨4, ![1, 1, 256, 256]⟩
abbrev S1x1x256x128 : Shape := ⟨4, ![1, 1, 256, 128]⟩
abbrev S256x128 : Shape := ⟨2, ![256, 128]⟩
abbrev S768x128 : Shape := ⟨2, ![768, 128]⟩
abbrev S1x256x128 : Shape := ⟨3, ![1, 256, 128]⟩

abbrev nBuf : Space → Nat
  | .hbm => 101
  | .vmem => 11
  | .smem => 0
  | _ => 0

abbrev bufTy : (tb : Table) → Fin (tcTables nBuf tb) → BufTy
  | .hbm, ⟨0, _⟩ => ⟨S4x8448x12x64, .f32⟩
  | .hbm, ⟨1, _⟩ => ⟨S4x8448x4x64, .f32⟩
  | .hbm, ⟨2, _⟩ => ⟨S4x8448x4x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x256, .f32⟩
  | .hbm, ⟨59, _⟩ => ⟨S_, .f32⟩
  | .hbm, ⟨60, _⟩ => ⟨S_, .f32⟩
  | .hbm, ⟨61, _⟩ => ⟨S_, .i32⟩
  | .hbm, ⟨62, _⟩ => ⟨S1, .i32⟩
  | .hbm, ⟨63, _⟩ => ⟨S256, .f32⟩
  | .hbm, ⟨64, _⟩ => ⟨S8x256, .f32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S1, .i32⟩
  | .hbm, ⟨69, _⟩ => ⟨S256, .f32⟩
  | .hbm, ⟨70, _⟩ => ⟨S8x256, .f32⟩
  | .hbm, ⟨71, _⟩ => ⟨S4x8448x12x64, .f32⟩
  | .hbm, ⟨72, _⟩ => ⟨S4x8448x12x64, .f32⟩
  | .hbm, ⟨73, _⟩ => ⟨S_, .f32⟩
  | .hbm, ⟨74, _⟩ => ⟨S4x8448x12x64, .f32⟩
  | .hbm, ⟨75, _⟩ => ⟨S4x8448x12x64, .f32⟩
  | .hbm, ⟨76, _⟩ => ⟨S4x8448x12x64, .f32⟩
  | .hbm, ⟨77, _⟩ => ⟨S4x8448x12x64, .f32⟩
  | .hbm, ⟨78, _⟩ => ⟨S4x8448x12x64, .f32⟩
  | .hbm, ⟨79, _⟩ => ⟨S4x8448x12x256, .f32⟩
  | .hbm, ⟨80, _⟩ => ⟨S4x8448x3072, .f32⟩
  | .hbm, ⟨81, _⟩ => ⟨S4x8448x3072, .fp8e4m3⟩
  | .hbm, ⟨82, _⟩ => ⟨S4x8448x4x64, .f32⟩
  | .hbm, ⟨83, _⟩ => ⟨S4x8448x4x64, .f32⟩
  | .hbm, ⟨84, _⟩ => ⟨S4x33x256x4x64, .f32⟩
  | .hbm, ⟨85, _⟩ => ⟨S4x33x4x64x256, .f32⟩
  | .hbm, ⟨86, _⟩ => ⟨S_, .f32⟩
  | .hbm, ⟨87, _⟩ => ⟨S4x33x4x64x256, .f32⟩
  | .hbm, ⟨88, _⟩ => ⟨S4x33x4x64x256, .f32⟩
  | .hbm, ⟨89, _⟩ => ⟨S4x33x4x64x256, .f32⟩
  | .hbm, ⟨90, _⟩ => ⟨S4x33x4x64x256, .f32⟩
  | .hbm, ⟨91, _⟩ => ⟨S4x33x4x64x256, .f32⟩
  | .hbm, ⟨92, _⟩ => ⟨S4x33x4x256x256, .f32⟩
  | .hbm, ⟨93, _⟩ => ⟨S4x33x1024x256, .f32⟩
  | .hbm, ⟨94, _⟩ => ⟨S4x33x1024x256, .fp8e4m3⟩
  | .hbm, ⟨95, _⟩ => ⟨S_, .f32⟩
  | .hbm, ⟨96, _⟩ => ⟨S4x8448x4x64, .f32⟩
  | .hbm, ⟨97, _⟩ => ⟨S4x8448x4x128, .f32⟩
  | .hbm, ⟨98, _⟩ => ⟨S4x4x8448x128, .f32⟩
  | .hbm, ⟨99, _⟩ => ⟨S4x4x8448x128, .bf16⟩
  | .hbm, ⟨100, _⟩ => ⟨S4x8448x768, .bf16⟩
  | .local _ .vmem, ⟨0, _⟩ => ⟨S8x256, .f32⟩
  | .local _ .vmem, ⟨1, _⟩ => ⟨S1x256x3072, .fp8e4m3⟩
  | .local _ .vmem, ⟨2, _⟩ => ⟨S1x256x3072, .fp8e4m3⟩
  | .local _ .vmem, ⟨3, _⟩ => ⟨S1x33x1024x256, .fp8e4m3⟩
  | .local _ .vmem, ⟨4, _⟩ => ⟨S1x33x1024x256, .fp8e4m3⟩
  | .local _ .vmem, ⟨5, _⟩ => ⟨S1x4x8448x128, .bf16⟩
  | .local _ .vmem, ⟨6, _⟩ => ⟨S1x4x8448x128, .bf16⟩
  | .local _ .vmem, ⟨7, _⟩ => ⟨S1x256x768, .bf16⟩
  | .local _ .vmem, ⟨8, _⟩ => ⟨S1x256x768, .bf16⟩
  | .local _ .vmem, ⟨9, _⟩ => ⟨S1x768x128, .f32⟩
  | .local _ .vmem, ⟨10, _⟩ => ⟨S4x768x128, .f32⟩
  | _, _ => ⟨S4x8448x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_cst_6 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_cst_10 : Ref sig .tc := ⟨.hbm, 43, rfl⟩
abbrev main_v25 : Ref sig .tc := ⟨.hbm, 44, rfl⟩
abbrev main_cst_11 : Ref sig .tc := ⟨.hbm, 45, rfl⟩
abbrev main_v26 : Ref sig .tc := ⟨.hbm, 46, rfl⟩
abbrev main_v27 : Ref sig .tc := ⟨.hbm, 47, rfl⟩
abbrev main_cst_12 : Ref sig .tc := ⟨.hbm, 48, rfl⟩
abbrev main_v28 : Ref sig .tc := ⟨.hbm, 49, rfl⟩
abbrev main_cst_13 : Ref sig .tc := ⟨.hbm, 50, rfl⟩
abbrev main_v29 : Ref sig .tc := ⟨.hbm, 51, rfl⟩
abbrev main_v30 : Ref sig .tc := ⟨.hbm, 52, rfl⟩
abbrev main_cst_14 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_15 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_16 : Ref sig .tc := ⟨.hbm, 65, rfl⟩
abbrev main_v40 : Ref sig .tc := ⟨.hbm, 66, rfl⟩
abbrev main_c_17 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_18 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_19 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 33], ![false, false]⟩

@[reducible] def k0_t1_loop (i : grid0.Coords) : Scf.Loop 32 :=
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_76 : BitVec 32 := 1#32
  ⟨c0_i32_75, v98, c1_i32_76⟩
def k0_mult1 (i : grid0.Coords) (k0_t1 : Fin (k0_t1_loop i).trips) : BitVec 32 :=
  let c0_i32_75 : BitVec 32 := 0#32
  let c1_i32_76 : BitVec 32 := 1#32
  let arg9 : BitVec 32 := Scf.iv c0_i32_75 c1_i32_76 k0_t1
  let c4096_i32 : BitVec 32 := 4096#32
  let v174 : BitVec 32 := Scalar.muli arg9 c4096_i32
  v174
def k0_off1 (i : grid0.Coords) (k0_t1 : Fin (k0_t1_loop i).trips) (c0_i32_119 : BitVec 32) : Fin 4 → Nat :=
  let c0_138 : Index := 0#32
  let c0_i32_75 : BitVec 32 := 0#32
  let c1_i32_76 : BitVec 32 := 1#32
  let arg9 : BitVec 32 := Scf.iv c0_i32_75 c1_i32_76 k0_t1
  let c16_i32 : BitVec 32 := 16#32
  let v176 : BitVec 32 := Scalar.muli arg9 c16_i32
  let v177 : BitVec 32 := Scalar.addi v176 c0_i32_119
  let v224 : Index := Scalar.indexCast v177
  let c0_139 : Index := 0#32
  let c0_140 : Index := 0#32
  ![0, v224.toNat, 0, 0]
def k0_off2 (i : grid0.Coords) (k0_t1 : Fin (k0_t1_loop i).trips) (c0_i32_120 : BitVec 32) : Fin 4 → Nat :=
  let c0_146 : Index := 0#32
  let c0_147 : Index := 0#32
  let c0_i32_75 : BitVec 32 := 0#32
  let c1_i32_76 : BitVec 32 := 1#32
  let arg9 : BitVec 32 := Scf.iv c0_i32_75 c1_i32_76 k0_t1
  let c4096_i32 : BitVec 32 := 4096#32
  let v174 : BitVec 32 := Scalar.muli arg9 c4096_i32
  let v175 : BitVec 32 := v174
  let v178 : BitVec 32 := Scalar.addi v175 c0_i32_120
  let v238 : Index := Scalar.indexCast v178
  let c0_148 : Index := 0#32
  ![0, 0, v238.toNat, 0]
def k0_off3 (i : grid0.Coords) (k0_t1 : Fin (k0_t1_loop i).trips) (c0_i32_119 : BitVec 32) : Fin 4 → Nat :=
  let c0_262 : Index := 0#32
  let c0_i32_75 : BitVec 32 := 0#32
  let c1_i32_76 : BitVec 32 := 1#32
  let arg9 : BitVec 32 := Scf.iv c0_i32_75 c1_i32_76 k0_t1
  let c16_i32 : BitVec 32 := 16#32
  let v176 : BitVec 32 := Scalar.muli arg9 c16_i32
  let v177 : BitVec 32 := Scalar.addi v176 c0_i32_119
  let v452 : Index := Scalar.indexCast v177
  let c256_263 : Index := 256#32
  let c0_264 : Index := 0#32
  ![0, v452.toNat, 256, 0]
def k0_off4 (i : grid0.Coords) (k0_t1 : Fin (k0_t1_loop i).trips) (c0_i32_120 : BitVec 32) : Fin 4 → Nat :=
  let c0_280 : Index := 0#32
  let c1_281 : Index := 1#32
  let c0_i32_75 : BitVec 32 := 0#32
  let c1_i32_76 : BitVec 32 := 1#32
  let arg9 : BitVec 32 := Scf.iv c0_i32_75 c1_i32_76 k0_t1
  let c4096_i32 : BitVec 32 := 4096#32
  let v174 : BitVec 32 := Scalar.muli arg9 c4096_i32
  let v175 : BitVec 32 := v174
  let v178 : BitVec 32 := Scalar.addi v175 c0_i32_120
  let v483 : Index := Scalar.indexCast v178
  let c0_282 : Index := 0#32
  ![0, 1, v483.toNat, 0]
def k0_off5 (i : grid0.Coords) (k0_t1 : Fin (k0_t1_loop i).trips) (c0_i32_119 : BitVec 32) : Fin 4 → Nat :=
  let c0_396 : Index := 0#32
  let c0_i32_75 : BitVec 32 := 0#32
  let c1_i32_76 : BitVec 32 := 1#32
  let arg9 : BitVec 32 := Scf.iv c0_i32_75 c1_i32_76 k0_t1
  let c16_i32 : BitVec 32 := 16#32
  let v176 : BitVec 32 := Scalar.muli arg9 c16_i32
  let v177 : BitVec 32 := Scalar.addi v176 c0_i32_119
  let v697 : Index := Scalar.indexCast v177
  let c512_397 : Index := 512#32
  let c0_398 : Index := 0#32
  ![0, v697.toNat, 512, 0]
def k0_off6 (i : grid0.Coords) (k0_t1 : Fin (k0_t1_loop i).trips) (c0_i32_120 : BitVec 32) : Fin 4 → Nat :=
  let c0_414 : Index := 0#32
  let c2_415 : Index := 2#32
  let c0_i32_75 : BitVec 32 := 0#32
  let c1_i32_76 : BitVec 32 := 1#32
  let arg9 : BitVec 32 := Scf.iv c0_i32_75 c1_i32_76 k0_t1
  let c4096_i32 : BitVec 32 := 4096#32
  let v174 : BitVec 32 := Scalar.muli arg9 c4096_i32
  let v175 : BitVec 32 := v174
  let v178 : BitVec 32 := Scalar.addi v175 c0_i32_120
  let v728 : Index := Scalar.indexCast v178
  let c0_416 : Index := 0#32
  ![0, 2, v728.toNat, 0]
def k0_off7 (i : grid0.Coords) (k0_t1 : Fin (k0_t1_loop i).trips) (c0_i32_119 : BitVec 32) : Fin 4 → Nat :=
  let c0_530 : Index := 0#32
  let c0_i32_75 : BitVec 32 := 0#32
  let c1_i32_76 : BitVec 32 := 1#32
  let arg9 : BitVec 32 := Scf.iv c0_i32_75 c1_i32_76 k0_t1
  let c16_i32 : BitVec 32 := 16#32
  let v176 : BitVec 32 := Scalar.muli arg9 c16_i32
  let v177 : BitVec 32 := Scalar.addi v176 c0_i32_119
  let v942 : Index := Scalar.indexCast v177
  let c768_531 : Index := 768#32
  let c0_532 : Index := 0#32
  ![0, v942.toNat, 768, 0]
def k0_off8 (i : grid0.Coords) (k0_t1 : Fin (k0_t1_loop i).trips) (c0_i32_120 : BitVec 32) : Fin 4 → Nat :=
  let c0_548 : Index := 0#32
  let c3_549 : Index := 3#32
  let c0_i32_75 : BitVec 32 := 0#32
  let c1_i32_76 : BitVec 32 := 1#32
  let arg9 : BitVec 32 := Scf.iv c0_i32_75 c1_i32_76 k0_t1
  let c4096_i32 : BitVec 32 := 4096#32
  let v174 : BitVec 32 := Scalar.muli arg9 c4096_i32
  let v175 : BitVec 32 := v174
  let v178 : BitVec 32 := Scalar.addi v175 c0_i32_120
  let v973 : Index := Scalar.indexCast v178
  let c0_550 : Index := 0#32
  ![0, 3, v973.toNat, 0]
@[reducible] def k0_t2_loop (i : grid0.Coords) : Scf.Loop 32 :=
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let v95 : BitVec 32 := Scalar.addi c0_i32_75 v94
  let c1_i32_77 : BitVec 32 := 1#32
  ⟨v98, v95, c1_i32_77⟩
def k0_mult2 (i : grid0.Coords) (k0_t2 : Fin (k0_t2_loop i).trips) : BitVec 32 :=
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c4096_i32 : BitVec 32 := 4096#32
  let v174 : BitVec 32 := Scalar.muli arg9 c4096_i32
  v174
def k0_off9 (i : grid0.Coords) (k0_t2 : Fin (k0_t2_loop i).trips) (c0_i32_119 : BitVec 32) : Fin 4 → Nat :=
  let c0_138 : Index := 0#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c16_i32 : BitVec 32 := 16#32
  let v176 : BitVec 32 := Scalar.muli arg9 c16_i32
  let v177 : BitVec 32 := Scalar.addi v176 c0_i32_119
  let v224 : Index := Scalar.indexCast v177
  let c0_139 : Index := 0#32
  let c0_140 : Index := 0#32
  ![0, v224.toNat, 0, 0]
def k0_off10 (i : grid0.Coords) (k0_t2 : Fin (k0_t2_loop i).trips) (c0_i32_120 : BitVec 32) : Fin 4 → Nat :=
  let c0_146 : Index := 0#32
  let c0_147 : Index := 0#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c4096_i32 : BitVec 32 := 4096#32
  let v174 : BitVec 32 := Scalar.muli arg9 c4096_i32
  let v175 : BitVec 32 := v174
  let v178 : BitVec 32 := Scalar.addi v175 c0_i32_120
  let v238 : Index := Scalar.indexCast v178
  let c0_148 : Index := 0#32
  ![0, 0, v238.toNat, 0]
def k0_off11 (i : grid0.Coords) (k0_t2 : Fin (k0_t2_loop i).trips) (c0_i32_119 : BitVec 32) : Fin 4 → Nat :=
  let c0_262 : Index := 0#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c16_i32 : BitVec 32 := 16#32
  let v176 : BitVec 32 := Scalar.muli arg9 c16_i32
  let v177 : BitVec 32 := Scalar.addi v176 c0_i32_119
  let v452 : Index := Scalar.indexCast v177
  let c256_263 : Index := 256#32
  let c0_264 : Index := 0#32
  ![0, v452.toNat, 256, 0]
def k0_off12 (i : grid0.Coords) (k0_t2 : Fin (k0_t2_loop i).trips) (c0_i32_120 : BitVec 32) : Fin 4 → Nat :=
  let c0_280 : Index := 0#32
  let c1_281 : Index := 1#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c4096_i32 : BitVec 32 := 4096#32
  let v174 : BitVec 32 := Scalar.muli arg9 c4096_i32
  let v175 : BitVec 32 := v174
  let v178 : BitVec 32 := Scalar.addi v175 c0_i32_120
  let v483 : Index := Scalar.indexCast v178
  let c0_282 : Index := 0#32
  ![0, 1, v483.toNat, 0]
def k0_off13 (i : grid0.Coords) (k0_t2 : Fin (k0_t2_loop i).trips) (c0_i32_119 : BitVec 32) : Fin 4 → Nat :=
  let c0_396 : Index := 0#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c16_i32 : BitVec 32 := 16#32
  let v176 : BitVec 32 := Scalar.muli arg9 c16_i32
  let v177 : BitVec 32 := Scalar.addi v176 c0_i32_119
  let v697 : Index := Scalar.indexCast v177
  let c512_397 : Index := 512#32
  let c0_398 : Index := 0#32
  ![0, v697.toNat, 512, 0]
def k0_off14 (i : grid0.Coords) (k0_t2 : Fin (k0_t2_loop i).trips) (c0_i32_120 : BitVec 32) : Fin 4 → Nat :=
  let c0_414 : Index := 0#32
  let c2_415 : Index := 2#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c4096_i32 : BitVec 32 := 4096#32
  let v174 : BitVec 32 := Scalar.muli arg9 c4096_i32
  let v175 : BitVec 32 := v174
  let v178 : BitVec 32 := Scalar.addi v175 c0_i32_120
  let v728 : Index := Scalar.indexCast v178
  let c0_416 : Index := 0#32
  ![0, 2, v728.toNat, 0]
def k0_off15 (i : grid0.Coords) (k0_t2 : Fin (k0_t2_loop i).trips) (c0_i32_119 : BitVec 32) : Fin 4 → Nat :=
  let c0_530 : Index := 0#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c16_i32 : BitVec 32 := 16#32
  let v176 : BitVec 32 := Scalar.muli arg9 c16_i32
  let v177 : BitVec 32 := Scalar.addi v176 c0_i32_119
  let v942 : Index := Scalar.indexCast v177
  let c768_531 : Index := 768#32
  let c0_532 : Index := 0#32
  ![0, v942.toNat, 768, 0]
def k0_off16 (i : grid0.Coords) (k0_t2 : Fin (k0_t2_loop i).trips) (c0_i32_120 : BitVec 32) : Fin 4 → Nat :=
  let c0_548 : Index := 0#32
  let c3_549 : Index := 3#32
  let c0_i32_75 : BitVec 32 := 0#32
  let arg1 : BitVec 32 := BitVec.ofNat 32 (i 1).val
  let c32_i32 : BitVec 32 := 32#32
  let v0 : BitVec 1 := Scalar.cmpi .eq arg1 c32_i32
  let c0_i32 : BitVec 32 := 0#32
  let c2_i32 : BitVec 32 := 2#32
  let v1 : BitVec 32 := Scalar.select v0 c0_i32 c2_i32
  let v94 : BitVec 32 := Scalar.subi v1 c0_i32_75
  let c1_i32 : BitVec 32 := 1#32
  let v96 : BitVec 32 := Scalar.divsi v94 c1_i32
  let v97 : BitVec 32 := Scalar.muli v96 c1_i32
  let v98 : BitVec 32 := Scalar.addi c0_i32_75 v97
  let c1_i32_77 : BitVec 32 := 1#32
  let arg9 : BitVec 32 := Scf.iv v98 c1_i32_77 k0_t2
  let c4096_i32 : BitVec 32 := 4096#32
  let v174 : BitVec 32 := Scalar.muli arg9 c4096_i32
  let v175 : BitVec 32 := v174
  let v178 : BitVec 32 := Scalar.addi v175 c0_i32_120
  let v973 : Index := Scalar.indexCast v178
  let c0_550 : Index := 0#32
  ![0, 3, v973.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x33x1024x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8448x12x64 : Shape := ⟨4, ![4, 8448, 12, 64]⟩
abbrev S4x8448x4x64 : Shape := ⟨4, ![4, 8448, 4, 64]⟩
abbrev S64 : Shape := ⟨1, ![64]⟩
abbrev S4x8192x12x64 : Shape := ⟨4, ![4, 8192, 12, 64]⟩
abbrev S4x256x12x64 : Shape := ⟨4, ![4, 256, 12, 64]⟩
abbrev S4x8192x4x64 : Shape := ⟨4, ![4, 8192, 4, 64]⟩
abbrev S4x256x4x64 : Shape := ⟨4, ![4, 256, 4, 64]⟩
abbrev S4x8192x4x3x64 : Shape := ⟨5, ![4, 8192, 4, 3, 64]⟩
abbrev S4x4x8448x8192x3 : Shape := ⟨5, ![4, 4, 8448, 8192, 3]⟩
abbrev S4x4x3x8192x8448 : Shape := ⟨5, ![4, 4, 3, 8192, 8448]⟩
abbrev S_ : Shape := ⟨0, ![]⟩
abbrev S4x4x3x8192 : Shape := ⟨4, ![4, 4, 3, 8192]⟩
abbrev S4x4x3x8192x1 : Shape := ⟨5, ![4, 4, 3, 8192, 1]⟩
abbrev S4x4x64x3x8192 : Shape := ⟨5, ![4, 4, 64, 3, 8192]⟩
abbrev S4x8192x768 : Shape := ⟨3, ![4, 8192, 768]⟩
abbrev S4x256x4x3x64 : Shape := ⟨5, ![4, 256, 4, 3, 64]⟩
abbrev S4x4x256x256x3 : Shape := ⟨5, ![4, 4, 256, 256, 3]⟩
abbrev S4x4x3x256x256 : Shape := ⟨5, ![4, 4, 3, 256, 256]⟩
abbrev S4x4x3x256 : Shape := ⟨4, ![4, 4, 3, 256]⟩
abbrev S4x4x3x256x1 : Shape := ⟨5, ![4, 4, 3, 256, 1]⟩
abbrev S4x4x64x3x256 : Shape := ⟨5, ![4, 4, 64, 3, 256]⟩
abbrev S4x256x768 : Shape := ⟨3, ![4, 256, 768]⟩
abbrev S4x8448x768 : Shape := ⟨3, ![4, 8448, 768]⟩

abbrev nBuf : Space → Nat
  | .hbm => 61
  | .vmem => 0
  | .smem => 0
  | _ => 0

abbrev bufTy : (tb : Table) → Fin (tcTables nBuf tb) → BufTy
  | .hbm, ⟨0, _⟩ => ⟨S4x8448x12x64, .f32⟩
  | .hbm, ⟨1, _⟩ => ⟨S4x8448x4x64, .f32⟩
  | .hbm, ⟨2, _⟩ => ⟨S4x8448x4x64, .f32⟩
  | .hbm, ⟨3, _⟩ => ⟨S64, .f32⟩
  | .hbm, ⟨4, _⟩ => ⟨S64, .f32⟩
  | .hbm, ⟨5, _⟩ => ⟨S4x8192x12x64, .f32⟩
  | .hbm, ⟨6, _⟩ => ⟨S4x256x12x64, .f32⟩
  | .hbm, ⟨7, _⟩ => ⟨S4x8192x4x64, .f32⟩
  | .hbm, ⟨8, _⟩ => ⟨S4x256x4x64, .f32⟩
  | .hbm, ⟨9, _⟩ => ⟨S4x8192x4x64, .f32⟩
  | .hbm, ⟨10, _⟩ => ⟨S4x256x4x64, .f32⟩
  | .hbm, ⟨11, _⟩ => ⟨S4x8448x4x64, .f32⟩
  | .hbm, ⟨12, _⟩ => ⟨S4x8448x4x64, .f32⟩
  | .hbm, ⟨13, _⟩ => ⟨S4x8192x4x3x64, .f32⟩
  | .hbm, ⟨14, _⟩ => ⟨S4x4x8448x8192x3, .f32⟩
  | .hbm, ⟨15, _⟩ => ⟨S4x4x3x8192x8448, .f32⟩
  | .hbm, ⟨16, _⟩ => ⟨S_, .f32⟩
  | .hbm, ⟨17, _⟩ => ⟨S4x4x3x8192x8448, .f32⟩
  | .hbm, ⟨18, _⟩ => ⟨S4x4x3x8192x8448, .f32⟩
  | .hbm, ⟨19, _⟩ => ⟨S_, .f32⟩
  | .hbm, ⟨20, _⟩ => ⟨S4x4x3x8192, .f32⟩
  | .hbm, ⟨21, _⟩ => ⟨S_, .f32⟩
  | .hbm, ⟨22, _⟩ => ⟨S4x4x3x8192, .f32⟩
  | .hbm, ⟨23, _⟩ => ⟨S4x4x3x8192, .f32⟩
  | .hbm, ⟨24, _⟩ => ⟨S4x4x3x8192x1, .f32⟩
  | .hbm, ⟨25, _⟩ => ⟨S4x4x3x8192x8448, .f32⟩
  | .hbm, ⟨26, _⟩ => ⟨S4x4x3x8192x8448, .f32⟩
  | .hbm, ⟨27, _⟩ => ⟨S4x4x3x8192x8448, .f32⟩
  | .hbm, ⟨28, _⟩ => ⟨S_, .f32⟩
  | .hbm, ⟨29, _⟩ => ⟨S4x4x3x8192, .f32⟩
  | .hbm, ⟨30, _⟩ => ⟨S4x4x3x8192x1, .f32⟩
  | .hbm, ⟨31, _⟩ => ⟨S4x4x3x8192x8448, .f32⟩
  | .hbm, ⟨32, _⟩ => ⟨S4x4x3x8192x8448, .f32⟩
  | .hbm, ⟨33, _⟩ => ⟨S4x4x64x3x8192, .f32⟩
  | .hbm, ⟨34, _⟩ => ⟨S4x8192x4x3x64, .f32⟩
  | .hbm, ⟨35, _⟩ => ⟨S4x8192x768, .f32⟩
  | .hbm, ⟨36, _⟩ => ⟨S4x256x4x3x64, .f32⟩
  | .hbm, ⟨37, _⟩ => ⟨S4x4x256x256x3, .f32⟩
  | .hbm, ⟨38, _⟩ => ⟨S4x4x3x256x256, .f32⟩
  | .hbm, ⟨39, _⟩ => ⟨S_, .f32⟩
  | .hbm, ⟨40, _⟩ => ⟨S4x4x3x256x256, .f32⟩
  | .hbm, ⟨41, _⟩ => ⟨S4x4x3x256x256, .f32⟩
  | .hbm, ⟨42, _⟩ => ⟨S_, .f32⟩
  | .hbm, ⟨43, _⟩ => ⟨S4x4x3x256, .f32⟩
  | .hbm, ⟨44, _⟩ => ⟨S_, .f32⟩
  | .hbm, ⟨45, _⟩ => ⟨S4x4x3x256, .f32⟩
  | .hbm, ⟨46, _⟩ => ⟨S4x4x3x256, .f32⟩
  | .hbm, ⟨47, _⟩ => ⟨S4x4x3x256x1, .f32⟩
  | .hbm, ⟨48, _⟩ => ⟨S4x4x3x256x256, .f32⟩
  | .hbm, ⟨49, _⟩ => ⟨S4x4x3x256x256, .f32⟩
  | .hbm, ⟨50, _⟩ => ⟨S4x4x3x256x256, .f32⟩
  | .hbm, ⟨51, _⟩ => ⟨S_, .f32⟩
  | .hbm, ⟨52, _⟩ => ⟨S4x4x3x256, .f32⟩
  | .hbm, ⟨53, _⟩ => ⟨S4x4x3x256x1, .f32⟩
  | .hbm, ⟨54, _⟩ => ⟨S4x4x3x256x256, .f32⟩
  | .hbm, ⟨55, _⟩ => ⟨S4x4x3x256x256, .f32⟩
  | .hbm, ⟨56, _⟩ => ⟨S4x4x64x3x256, .f32⟩
  | .hbm, ⟨57, _⟩ => ⟨S4x256x4x3x64, .f32⟩
  | .hbm, ⟨58, _⟩ => ⟨S4x256x768, .f32⟩
  | .hbm, ⟨59, _⟩ => ⟨S4x8448x768, .f32⟩
  | .hbm, ⟨60, _⟩ => ⟨S4x8448x768, .bf16⟩
  | _, _ => ⟨S4x8448x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x8448x4x256 : Shape := ⟨4, ![4, 8448, 4, 256]⟩
abbrev S4x2x3072 : Shape := ⟨3, ![4, 2, 3072]⟩
abbrev S1024x1024 : Shape := ⟨2, ![1024, 1024]⟩
abbrev S1024 : Shape := ⟨1, ![1024]⟩
abbrev S_ : Shape := ⟨0, ![]⟩
abbrev S1x4x8448x1024 : Shape := ⟨4, ![1, 4, 8448, 1024]⟩
abbrev S4x4x8448x1024 : Shape := ⟨4, ![4, 4, 8448, 1024]⟩
abbrev S8x3x1024 : Shape := ⟨3, ![8, 3, 1024]⟩
abbrev S1x1024 : Shape := ⟨2, ![1, 1024]⟩
abbrev S4x8192x1024 : Shape := ⟨3, ![4, 8192, 1024]⟩
abbrev S1x1x512x1024 : Shape := ⟨4, ![1, 1, 512, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 28
  | .vmem => 17
  | .smem => 0
  | _ => 0

abbrev bufTy : (tb : Table) → Fin (tcTables nBuf tb) → BufTy
  | .hbm, ⟨0, _⟩ => ⟨S4x8448x1024, .f32⟩
  | .hbm, ⟨1, _⟩ => ⟨S4x8448x1024, .f32⟩
  | .hbm, ⟨2, _⟩ => ⟨S4x8448x4x256, .f32⟩
  | .hbm, ⟨3, _⟩ => ⟨S4x8448x4x256, .f32⟩
  | .hbm, ⟨4, _⟩ => ⟨S4x8448x1024, .f32⟩
  | .hbm, ⟨5, _⟩ => ⟨S4x2x3072, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S4x8448x1024, .f32⟩
  | .hbm, ⟨11, _⟩ => ⟨S_, .f32⟩
  | .hbm, ⟨12, _⟩ => ⟨S4x8448x1024, .f32⟩
  | .hbm, ⟨13, _⟩ => ⟨S1x4x8448x1024, .f32⟩
  | .hbm, ⟨14, _⟩ => ⟨S1x4x8448x1024, .f32⟩
  | .hbm, ⟨15, _⟩ => ⟨S1x4x8448x1024, .f32⟩
  | .hbm, ⟨16, _⟩ => ⟨S1x4x8448x1024, .f32⟩
  | .hbm, ⟨17, _⟩ => ⟨S4x4x8448x1024, .f32⟩
  | .hbm, ⟨18, _⟩ => ⟨S4x4x8448x1024, .bf16⟩
  | .hbm, ⟨19, _⟩ => ⟨S4x8448x1024, .f32⟩
  | .hbm, ⟨20, _⟩ => ⟨S4x8448x1024, .bf16⟩
  | .hbm, ⟨21, _⟩ => ⟨S4x8448x1024, .f32⟩
  | .hbm, ⟨22, _⟩ => ⟨S4x8448x1024, .bf16⟩
  | .hbm, ⟨23, _⟩ => ⟨S8x3x1024, .f32⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S4x8192x1024, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x3x1024, .f32⟩
  | .local _ .vmem, ⟨11, _⟩ => ⟨S1x3x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x8448x1024 : Shape := ⟨3, ![4, 8448, 1024]⟩
abbrev S4x8448x4x256 : Shape := ⟨4, ![4, 8448, 4, 256]⟩
abbrev S4x2x3072 : Shape := ⟨3, ![4, 2, 3072]⟩
abbrev S1024x1024 : Shape := ⟨2, ![1024, 1024]⟩
abbrev S1024 : Shape := ⟨1, ![1024]⟩
abbrev S4x8192x1024 : Shape := ⟨3, ![4, 8192, 1024]⟩
abbrev S4x8192x4x256 : Shape := ⟨4, ![4, 8192, 4, 256]⟩
abbrev S4x1x3072 : Shape := ⟨3, ![4, 1, 3072]⟩
abbrev S4x3072 : Shape := ⟨2, ![4, 3072]⟩
abbrev S4x1024 : Shape := ⟨2, ![4, 1024]⟩
abbrev S_ : Shape := ⟨0, ![]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8448x1024, .f32⟩
  | .hbm, ⟨2, _⟩ => ⟨S4x8448x4x256, .f32⟩
  | .hbm, ⟨3, _⟩ => ⟨S4x8448x4x256, .f32⟩
  | .hbm, ⟨4, _⟩ => ⟨S4x8448x1024, .f32⟩
  | .hbm, ⟨5, _⟩ => ⟨S4x2x3072, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4x8192x1024, .f32⟩
  | .hbm, ⟨10, _⟩ => ⟨S4x8192x1024, .f32⟩
  | .hbm, ⟨11, _⟩ => ⟨S4x8192x4x256, .f32⟩
  | .hbm, ⟨12, _⟩ => ⟨S4x8192x4x256, .f32⟩
  | .hbm, ⟨13, _⟩ => ⟨S4x8192x1024, .f32⟩
  | .hbm, ⟨14, _⟩ => ⟨S4x1x3072, .f32⟩
  | .hbm, ⟨15, _⟩ => ⟨S4x3072, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x8192x4x256, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192x1024, .f32⟩
  | .hbm, ⟨43, _⟩ => ⟨S4x8192x1024, .f32⟩
  | .hbm, ⟨44, _⟩ => ⟨S4x1x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192x1024, .f32⟩
  | .hbm, ⟨70, _⟩ => ⟨S4x8192x1024, .f32⟩
  | .hbm, ⟨71, _⟩ => ⟨S1x1x1024, .f32⟩
  | .hbm, ⟨72, _⟩ => ⟨S4x8192x1024, .f32⟩
  | .hbm, ⟨73, _⟩ => ⟨S4x8192x1024, .f32⟩
  | .hbm, ⟨74, _⟩ => ⟨S1x1x1024, .f32⟩
  | .hbm, ⟨75, _⟩ => ⟨S4x8192x1024, .f32⟩
  | .hbm, ⟨76, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Kernel3.lean ====
abbrev S4x8448x1024 : Shape := ⟨3, ![4, 8448, 1024]⟩
abbrev S4x2x3072 : Shape := ⟨3, ![4, 2, 3072]⟩
abbrev S1024x5136 : Shape := ⟨2, ![1024, 5136]⟩
abbrev S16 : Shape := ⟨1, ![16]⟩
abbrev S1024x16 : Shape := ⟨2, ![1024, 16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S8x3x1024 : Shape := ⟨3, ![8, 3, 1024]⟩
abbrev S1024x5120 : Shape := ⟨2, ![1024, 5120]⟩
abbrev S4x4x8448x1024 : Shape := ⟨4, ![4, 4, 8448, 1024]⟩
abbrev S4x66x1024x128 : Shape := ⟨4, ![4, 66, 1024, 128]⟩
abbrev S4x16x8448 : Shape := ⟨3, ![4, 16, 8448]⟩
abbrev S1x256x1024 : Shape := ⟨3, ![1, 256, 1024]⟩
abbrev S1x3x1024 : Shape := ⟨3, ![1, 3, 1024]⟩
abbrev S4x1x256x1024 : Shape := ⟨4, ![4, 1, 256, 1024]⟩
abbrev S1x2x1024x128 : Shape := ⟨4, ![1, 2, 1024, 128]⟩
abbrev S1x16x256 : Shape := ⟨3, ![1, 16, 256]⟩
abbrev S1x128x1024 : Shape := ⟨3, ![1, 128, 1024]⟩
abbrev S128x1024 : Shape := ⟨2, ![128, 1024]⟩
abbrev S128x1 : Shape := ⟨2, ![128, 1]⟩
abbrev S1x1x1024 : Shape := ⟨3, ![1, 1, 1024]⟩
abbrev S1x1024 : Shape := ⟨2, ![1, 1024]⟩
abbrev S1024x1024 : Shape := ⟨2, ![1024, 1024]⟩
abbrev S1x1x128x1024 : Shape := ⟨4, ![1, 1, 128, 1024]⟩
abbrev S1x1x1024x128 : Shape := ⟨4, ![1, 1, 1024, 128]⟩
abbrev S128x128 : Shape := ⟨2, ![128, 128]⟩
abbrev S16x128 : Shape := ⟨2, ![16, 128]⟩
abbrev S1x16x128 : Shape := ⟨3, ![1, 16, 128]⟩

abbrev nBuf : Space → Nat
  | .hbm => 19
  | .vmem => 13
  | .smem => 0
  | _ => 0

abbrev bufTy : (tb : Table) → Fin (tcTables nBuf tb) → BufTy
  | .hbm, ⟨0, _⟩ => ⟨S4x8448x1024, .f32⟩
  | .hbm, ⟨1, _⟩ => ⟨S4x2x3072, .f32⟩
  | .hbm, ⟨2, _⟩ => ⟨S1024x5136, .f32⟩
  | .hbm, ⟨3, _⟩ => ⟨S16, .f32⟩
  | .hbm, ⟨4, _⟩ => ⟨S1024x16, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S8x3x1024, .f32⟩
  | .hbm, ⟨14, _⟩ => ⟨S1024x5120, .f32⟩
  | .hbm, ⟨15, _⟩ => ⟨S1024x5120, .bf16⟩
  | .hbm, ⟨16, _⟩ => ⟨S4x4x8448x1024, .bf16⟩
  | .hbm, ⟨17, _⟩ => ⟨S4x66x1024x128, .bf16⟩
  | .hbm, ⟨18, _⟩ => ⟨S4x16x8448, .f32⟩
  | .local _ .vmem, ⟨0, _⟩ => ⟨S1x256x1024, .f32⟩
  | .local _ .vmem, ⟨1, _⟩ => ⟨S1x256x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x5120, .bf16⟩
  | .local _ .vmem, ⟨5, _⟩ => ⟨S1024x128, .bf16⟩
  | .local _ .vmem, ⟨6, _⟩ => ⟨S1x128, .f32⟩
  | .local _ .vmem, ⟨7, _⟩ => ⟨S4x1x256x1024, .bf16⟩
  | .local _ .vmem, ⟨8, _⟩ => ⟨S4x1x256x1024, .bf16⟩
  | .local _ .vmem, ⟨9, _⟩ => ⟨S1x2x1024x128, .bf16⟩
  | .local _ .vmem, ⟨10, _⟩ => ⟨S1x2x1024x128, .bf16⟩
  | .local _ .vmem, ⟨11, _⟩ => ⟨S1x16x256, .f32⟩
  | .local _ .vmem, ⟨12, _⟩ => ⟨S1x16x256, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c32_i32 : BitVec 32 := 32#32
  let v1 : BitVec 32 := Scalar.divsi arg1 c32_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg1 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x8448x1024 : Shape := ⟨3, ![4, 8448, 1024]⟩
abbrev S4x2x3072 : Shape := ⟨3, ![4, 2, 3072]⟩
abbrev S1024x5136 : Shape := ⟨2, ![1024, 5136]⟩
abbrev S16 : Shape := ⟨1, ![16]⟩
abbrev S_ : Shape := ⟨0, ![]⟩
abbrev S4x8448 : Shape := ⟨2, ![4, 8448]⟩
abbrev S4x8448x1 : Shape := ⟨3, ![4, 8448, 1]⟩
abbrev S4x2x1024 : Shape := ⟨3, ![4, 2, 1024]⟩
abbrev S8448 : Shape := ⟨1, ![8448]⟩
abbrev S1x8448x1 : Shape := ⟨3, ![1, 8448, 1]⟩
abbrev S4x1x1024 : Shape := ⟨3, ![4, 1, 1024]⟩
abbrev S4x8448x5136 : Shape := ⟨3, ![4, 8448, 5136]⟩
abbrev S4x8448x16 : Shape := ⟨3, ![4, 8448, 16]⟩
abbrev S1x1x16 : Shape := ⟨3, ![1, 1, 16]⟩
abbrev S4x8448x4x4 : Shape := ⟨4, ![4, 8448, 4, 4]⟩
abbrev S4x8448x1x4 : Shape := ⟨4, ![4, 8448, 1, 4]⟩
abbrev S4x8448x4 : Shape := ⟨3, ![4, 8448, 4]⟩
abbrev S4x1x8448x4 : Shape := ⟨4, ![4, 1, 8448, 4]⟩
abbrev S4x4x8448x4 : Shape := ⟨4, ![4, 4, 8448, 4]⟩
abbrev S1x4x8448x1024 : Shape := ⟨4, ![1, 4, 8448, 1024]⟩
abbrev S4x4x8448x1024 : Shape := ⟨4, ![4, 4, 8448, 1024]⟩
abbrev S4x66x128x1024 : Shape := ⟨4, ![4, 66, 128, 1024]⟩
abbrev S4x66x1024x128 : Shape := ⟨4, ![4, 66, 1024, 128]⟩
abbrev S4x4x4x8448 : Shape := ⟨4, ![4, 4, 4, 8448]⟩
abbrev S4x16x8448 : Shape := ⟨3, ![4, 16, 8448]⟩

abbrev nBuf : Space → Nat
  | .hbm => 122
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x2x3072, .f32⟩
  | .hbm, ⟨2, _⟩ => ⟨S1024x5136, .f32⟩
  | .hbm, ⟨3, _⟩ => ⟨S16, .f32⟩
  | .hbm, ⟨4, _⟩ => ⟨S_, .f32⟩
  | .hbm, ⟨5, _⟩ => ⟨S4x8448, .f32⟩
  | .hbm, ⟨6, _⟩ => ⟨S4x8448x1, .f32⟩
  | .hbm, ⟨7, _⟩ => ⟨S_, .f32⟩
  | .hbm, ⟨8, _⟩ => ⟨S4x8448x1, .f32⟩
  | .hbm, ⟨9, _⟩ => ⟨S4x8448x1, .f32⟩
  | .hbm, ⟨10, _⟩ => ⟨S4x8448x1024, .f32⟩
  | .hbm, ⟨11, _⟩ => ⟨S4x8448x1024, .f32⟩
  | .hbm, ⟨12, _⟩ => ⟨S4x8448x1024, .f32⟩
  | .hbm, ⟨13, _⟩ => ⟨S_, .f32⟩
  | .hbm, ⟨14, _⟩ => ⟨S4x8448, .f32⟩
  | .hbm, ⟨15, _⟩ => ⟨S4x8448x1, .f32⟩
  | .hbm, ⟨16, _⟩ => ⟨S_, .f32⟩
  | .hbm, ⟨17, _⟩ => ⟨S4x8448x1, .f32⟩
  | .hbm, ⟨18, _⟩ => ⟨S4x8448x1, .f32⟩
  | .hbm, ⟨19, _⟩ => ⟨S4x2x1024, .f32⟩
  | .hbm, ⟨20, _⟩ => ⟨S4x2x1024, .f32⟩
  | .hbm, ⟨21, _⟩ => ⟨S4x2x1024, .f32⟩
  | .hbm, ⟨22, _⟩ => ⟨S8448, .i32⟩
  | .hbm, ⟨23, _⟩ => ⟨S1x8448x1, .i32⟩
  | .hbm, ⟨24, _⟩ => ⟨S_, .i32⟩
  | .hbm, ⟨25, _⟩ => ⟨S1x8448x1, .i32⟩
  | .hbm, ⟨26, _⟩ => ⟨S1x8448x1, .i1⟩
  | .hbm, ⟨27, _⟩ => ⟨S4x8448x1024, .f32⟩
  | .hbm, ⟨28, _⟩ => ⟨S4x8448x1024, .f32⟩
  | .hbm, ⟨29, _⟩ => ⟨S_, .f32⟩
  | .hbm, ⟨30, _⟩ => ⟨S4x8448x1, .f32⟩
  | .hbm, ⟨31, _⟩ => ⟨S4x8448x1, .f32⟩
  | .hbm, ⟨32, _⟩ => ⟨S4x8448x1, .f32⟩
  | .hbm, ⟨33, _⟩ => ⟨S4x8448x1024, .f32⟩
  | .hbm, ⟨34, _⟩ => ⟨S4x8448x1024, .f32⟩
  | .hbm, ⟨35, _⟩ => ⟨S4x1x1024, .f32⟩
  | .hbm, ⟨36, _⟩ => ⟨S4x1x1024, .f32⟩
  | .hbm, ⟨37, _⟩ => ⟨S4x8448x1024, .i1⟩
  | .hbm, ⟨38, _⟩ => ⟨S4x8448x1024, .f32⟩
  | .hbm, ⟨39, _⟩ => ⟨S4x8448x1024, .f32⟩
  | .hbm, ⟨40, _⟩ => ⟨S4x8448x1024, .f32⟩
  | .hbm, ⟨41, _⟩ => ⟨S_, .f32⟩
  | .hbm, ⟨42, _⟩ => ⟨S4x8448x1024, .f32⟩
  | .hbm, ⟨43, _⟩ => ⟨S4x8448x1024, .f32⟩
  | .hbm, ⟨44, _⟩ => ⟨S4x8448x1024, .f32⟩
  | .hbm, ⟨45, _⟩ => ⟨S4x1x1024, .f32⟩
  | .hbm, ⟨46, _⟩ => ⟨S4x1x1024, .f32⟩
  | .hbm, ⟨47, _⟩ => ⟨S4x8448x1024, .i1⟩
  | .hbm, ⟨48, _⟩ => ⟨S4x8448x1024, .f32⟩
  | .hbm, ⟨49, _⟩ => ⟨S4x8448x1024, .f32⟩
  | .hbm, ⟨50, _⟩ => ⟨S4x8448x1024, .f32⟩
  | .hbm, ⟨51, _⟩ => ⟨S4x8448x1024, .f32⟩
  | .hbm, ⟨52, _⟩ => ⟨S4x8448x5136, .f32⟩
  | .hbm, ⟨53, _⟩ => ⟨S4x8448x1024, .f32⟩
  | .hbm, ⟨54, _⟩ => ⟨S4x8448x1024, .f32⟩
  | .hbm, ⟨55, _⟩ => ⟨S4x8448x1024, .f32⟩
  | .hbm, ⟨56, _⟩ => ⟨S4x8448x1024, .f32⟩
  | .hbm, ⟨57, _⟩ => ⟨S4x8448x1024, .f32⟩
  | .hbm, ⟨58, _⟩ => ⟨S4x8448x16, .f32⟩
  | .hbm, ⟨59, _⟩ => ⟨S_, .f32⟩
  | .hbm, ⟨60, _⟩ => ⟨S4x8448x1024, .f32⟩
  | .hbm, ⟨61, _⟩ => ⟨S4x8448x1024, .f32⟩
  | .hbm, ⟨62, _⟩ => ⟨S1x1x16, .f32⟩
  | .hbm, ⟨63, _⟩ => ⟨S4x8448x16, .f32⟩
  | .hbm, ⟨64, _⟩ => ⟨S4x8448x16, .f32⟩
  | .hbm, ⟨65, _⟩ => ⟨S4x8448x4x4, .f32⟩
  | .hbm, ⟨66, _⟩ => ⟨S4x8448x1x4, .f32⟩
  | .hbm, ⟨67, _⟩ => ⟨S4x8448x4, .f32⟩
  | .hbm, ⟨68, _⟩ => ⟨S4x8448x1x4, .f32⟩
  | .hbm, ⟨69, _⟩ => ⟨S4x8448x4, .f32⟩
  | .hbm, ⟨70, _⟩ => ⟨S4x8448x4, .f32⟩
  | .hbm, ⟨71, _⟩ => ⟨S_, .f32⟩
  | .hbm, ⟨72, _⟩ => ⟨S4x8448x4, .f32⟩
  | .hbm, ⟨73, _⟩ => ⟨S4x8448x4, .f32⟩
  | .hbm, ⟨74, _⟩ => ⟨S4x8448x4, .f32⟩
  | .hbm, ⟨75, _⟩ => ⟨S4x8448x4, .f32⟩
  | .hbm, ⟨76, _⟩ => ⟨S4x8448x4, .i1⟩
  | .hbm, ⟨77, _⟩ => ⟨S4x8448x4, .f32⟩
  | .hbm, ⟨78, _⟩ => ⟨S4x8448x4, .f32⟩
  | .hbm, ⟨79, _⟩ => ⟨S4x8448x4, .f32⟩
  | .hbm, ⟨80, _⟩ => ⟨S4x8448x4, .f32⟩
  | .hbm, ⟨81, _⟩ => ⟨S4x8448x4, .f32⟩
  | .hbm, ⟨82, _⟩ => ⟨S4x8448x4, .f32⟩
  | .hbm, ⟨83, _⟩ => ⟨S4x8448x4, .f32⟩
  | .hbm, ⟨84, _⟩ => ⟨S4x8448x4, .f32⟩
  | .hbm, ⟨85, _⟩ => ⟨S4x8448x4, .f32⟩
  | .hbm, ⟨86, _⟩ => ⟨S4x8448x1x4, .f32⟩
  | .hbm, ⟨87, _⟩ => ⟨S4x8448x4, .f32⟩
  | .hbm, ⟨88, _⟩ => ⟨S4x8448x1x4, .f32⟩
  | .hbm, ⟨89, _⟩ => ⟨S4x8448x4, .f32⟩
  | .hbm, ⟨90, _⟩ => ⟨S4x8448x4, .f32⟩
  | .hbm, ⟨91, _⟩ => ⟨S_, .f32⟩
  | .hbm, ⟨92, _⟩ => ⟨S4x8448x4, .f32⟩
  | .hbm, ⟨93, _⟩ => ⟨S4x8448x4, .f32⟩
  | .hbm, ⟨94, _⟩ => ⟨S4x8448x4, .f32⟩
  | .hbm, ⟨95, _⟩ => ⟨S4x8448x4, .f32⟩
  | .hbm, ⟨96, _⟩ => ⟨S4x8448x4, .i1⟩
  | .hbm, ⟨97, _⟩ => ⟨S4x8448x4, .f32⟩
  | .hbm, ⟨98, _⟩ => ⟨S4x8448x4, .f32⟩
  | .hbm, ⟨99, _⟩ => ⟨S4x8448x4, .f32⟩
  | .hbm, ⟨100, _⟩ => ⟨S4x8448x4, .f32⟩
  | .hbm, ⟨101, _⟩ => ⟨S4x8448x4, .f32⟩
  | .hbm, ⟨102, _⟩ => ⟨S4x8448x4, .f32⟩
  | .hbm, ⟨103, _⟩ => ⟨S4x8448x4, .f32⟩
  | .hbm, ⟨104, _⟩ => ⟨S4x8448x4, .f32⟩
  | .hbm, ⟨105, _⟩ => ⟨S4x8448x4, .f32⟩
  | .hbm, ⟨106, _⟩ => ⟨S4x1x8448x4, .f32⟩
  | .hbm, ⟨107, _⟩ => ⟨S4x1x8448x4, .f32⟩
  | .hbm, ⟨108, _⟩ => ⟨S4x1x8448x4, .f32⟩
  | .hbm, ⟨109, _⟩ => ⟨S4x1x8448x4, .f32⟩
  | .hbm, ⟨110, _⟩ => ⟨S4x4x8448x4, .f32⟩
  | .hbm, ⟨111, _⟩ => ⟨S1x4x8448x1024, .f32⟩
  | .hbm, ⟨112, _⟩ => ⟨S1x4x8448x1024, .f32⟩
  | .hbm, ⟨113, _⟩ => ⟨S1x4x8448x1024, .f32⟩
  | .hbm, ⟨114, _⟩ => ⟨S1x4x8448x1024, .f32⟩
  | .hbm, ⟨115, _⟩ => ⟨S4x4x8448x1024, .f32⟩
  | .hbm, ⟨116, _⟩ => ⟨S4x4x8448x1024, .bf16⟩
  | .hbm, ⟨117, _⟩ => ⟨S4x66x128x1024, .f32⟩
  | .hbm, ⟨118, _⟩ => ⟨S4x66x1024x128, .f32⟩
  | .hbm, ⟨119, _⟩ => ⟨S4x66x1024x128, .bf16⟩
  | .hbm, ⟨120, _⟩ => ⟨S4x4x4x8448, .f32⟩
  | .hbm, ⟨121, _⟩ => ⟨S4x16x8448, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call2_v0 : Ref sig .tc := ⟨.hbm, 70, rfl⟩
abbrev main_call2_call0_cst : Ref sig .tc := ⟨.hbm, 71, rfl⟩
abbrev main_call2_call0_v0 : Ref sig .tc := ⟨.hbm, 72, rfl⟩
abbrev main_call2_call0_v1 : Ref sig .tc := ⟨.hbm, 73, rfl⟩
abbrev main_call2_call0_v2 : Ref sig .tc := ⟨.hbm, 74, rfl⟩
abbrev main_call2_call0_v3 : Ref sig .tc := ⟨.hbm, 75, rfl⟩
abbrev main_call2_call0_v4 : Ref sig .tc := ⟨.hbm, 76, rfl⟩
abbrev main_call2_call0_v5 : Ref sig .tc := ⟨.hbm, 77, rfl⟩
abbrev main_call2_call0_v6 : Ref sig .tc := ⟨.hbm, 78, rfl⟩
abbrev main_call2_call0_v7 : Ref sig .tc := ⟨.hbm, 79, rfl⟩
abbrev main_call2_call0_v8 : Ref sig .tc := ⟨.hbm, 80, rfl⟩
abbrev main_call2_call0_v9 : Ref sig .tc := ⟨.hbm, 81, rfl⟩
abbrev main_call2_call0_v10 : Ref sig .tc := ⟨.hbm, 82, rfl⟩
abbrev main_call2_call0_v11 : Ref sig .tc := ⟨.hbm, 83, rfl⟩
abbrev main_call2_v1 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call3_v0 : Ref sig .tc := ⟨.hbm, 90, rfl⟩
abbrev main_call3_call0_cst : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_call0_v2 : Ref sig .tc := ⟨.hbm, 94, rfl⟩
abbrev main_call3_call0_v3 : Ref sig .tc := ⟨.hbm, 95, rfl⟩
abbrev main_call3_call0_v4 : Ref sig .tc := ⟨.hbm, 96, rfl⟩
abbrev main_call3_call0_v5 : Ref sig .tc := ⟨.hbm, 97, rfl⟩
abbrev main_call3_call0_v6 : Ref sig .tc := ⟨.hbm, 98, rfl⟩
abbrev main_call3_call0_v7 : Ref sig .tc := ⟨.hbm, 99, rfl⟩
abbrev main_call3_call0_v8 : Ref sig .tc := ⟨.hbm, 100, rfl⟩
abbrev main_call3_call0_v9 : Ref sig .tc := ⟨.hbm, 101, rfl⟩
abbrev main_call3_call0_v10 : Ref sig .tc := ⟨.hbm, 102, rfl⟩
abbrev main_call3_call0_v11 : Ref sig .tc := ⟨.hbm, 103, rfl⟩
abbrev main_call3_v1 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩

abbrev nD : Nat := 1
abbrev τ : Topo := Topo.v7x

variable {F : FTy → Type} [FloatOps F]
-- ==== Proof.Body.lean ====
/- What one trip of the key loop, the context pass before it and the output stores after it
   compute, as tile products: the payloads of the run named by the attention's own words. -/
module

public import proofs.«01_k».proof.Proof.Gen.KernelIdeal.Value

@[expose] public section

set_option maxRecDepth 16384

noncomputable section
namespace Cert.KernelIdeal.Att
open Cert.KernelIdeal Cert.KernelIdeal.Gen Idealize.ShloMosaic Idealize.ShloMosaic.TcCoe Idealize.SL.Sem
variable {F : FTy → Type} [FloatOps F]

/-- The weights of one key tile: `2 ^ ((q · k) · scale - shift)`, the three query heads of one
    key head stacked. -/
def kexp (sc sh : FVec F S1x256 .f32) (q : FVec F S768x256 .fp8e4m3) (kt : Vec F S1x1x256x256 .fp8e4m3) :
    FVec F S768x256 .bf16 :=
  exp2 (truncf .bf16 (subf (mulf
    (matmul dot_S768x256_S256x256_S768x256_1_0_0_1_n_n none q
      (shapeCast S256x256 kt shapeCasts_S1x1x256x256_S256x256) (constant S768x256 .f32 0x00000000#32))
    (broadcastTo S768x256 sc broadcasts_S1x256_S768x256))
    (broadcastTo S768x256 sh broadcasts_S1x256_S768x256)) bitsLt_bf16_f32)

/-- One key tile's product: its weights times its values (and ones). -/
def kpart (sc sh : FVec F S1x256 .f32) (q : FVec F S768x256 .fp8e4m3) (kt : Vec F S1x1x256x256 .fp8e4m3)
    (v : Vec F S1x1x256x128 .bf16) : FVec F S768x128 .f32 :=
  matmul dot_S768x256_S256x128_S768x128_1_0_0_1_n_n none (kexp sc sh q kt)
    (shapeCast S256x128 v shapeCasts_S1x1x256x128_S256x128) (constant S768x128 .f32 0x00000000#32)

/-- Sixteen tile products added in their order. -/
def sum16 (p : Fin 16 → FVec F S768x128 .f32) : FVec F S768x128 .f32 :=
  addf (addf (addf (addf (addf (addf (addf (addf (addf (addf (addf (addf (addf (addf (addf
    (p 0) (p 1)) (p 2)) (p 3)) (p 4)) (p 5)) (p 6)) (p 7)) (p 8)) (p 9)) (p 10)) (p 11)) (p 12)) (p 13))
    (p 14)) (p 15)

/-- The accumulator after a trip: what it held plus the trip's products. -/
def kacc (a : Vec F S1x768x128 .f32) (s : FVec F S768x128 .f32) : Vec F S1x768x128 .f32 :=
  shapeCast S1x768x128 (addf (shapeCast S768x128 a shapeCasts_S1x768x128_S768x128) s)
    shapeCasts_S768x128_S1x768x128

section trip
variable (𝒱 : Variants) (c : Dev nD) (bd : Option 𝒱.V) (i : grid0.Coords) (arg2 : Memref sig .tc .vmem S8x256 .f32) (harg2 : arg2.IsWhole) (arg3 : Memref sig .tc .vmem S1x256x3072 .fp8e4m3) (harg3 : arg3.IsWhole) (arg4 : Memref sig .tc .vmem S1x33x1024x256 .fp8e4m3) (harg4 : arg4.IsWhole) (arg5 : Memref sig .tc .vmem S1x4x8448x128 .bf16) (harg5 : arg5.IsWhole) (arg6 : Memref sig .tc .vmem S1x256x768 .bf16) (harg6 : arg6.IsWhole) (arg7 : Memref sig .tc .vmem S1x768x128 .f32) (harg7 : arg7.IsWhole) (arg8 : Memref sig .tc .vmem S4x768x128 .f32) (harg8 : arg8.IsWhole) (v1 : BitVec 32) (v3 : FVec F S1x256 .f32) (v5 : FVec F S1x256 .f32) (v12 : FVec F S768x256 .fp8e4m3) (v19 : FVec F S768x256 .fp8e4m3) (v26 : FVec F S768x256 .fp8e4m3) (v33 : FVec F S768x256 .fp8e4m3) (v87 : FVec F S768x256 .bf16) (X_arg4 : BufTy.Contents (Elt F) arg4.view.ty) (X_arg5 : BufTy.Contents (Elt F) arg5.view.ty) (k : Fin (k0_t1_loop i).trips) (f_arg8 : BufTy.Contents (Elt F) arg8.view.ty)

/-- The sixteen tile products of head 0 in trip `k`. -/
def parts0 (j : Fin 16) : FVec F S768x128 .f32 :=
  kpart v3 v5 v12
    (View.readAt (Elt F) arg4.view (Rect.unit (s := S1x33x1024x256) (k0_off1 i k (BitVec.ofNat 32 j.val)) S1x1x256x256.size (k0_off1_inb i k j)).toLoadRect X_arg4)
    (View.readAt (Elt F) arg5.view (Rect.unit (s := S1x4x8448x128) (k0_off2 i k (BitVec.ofNat 32 (256 * j.val))) S1x1x256x128.size (k0_off2_inb i k j)).toLoadRect X_arg5)

/-- The sixteen tile products of head 1 in trip `k`. -/
def parts1 (j : Fin 16) : FVec F S768x128 .f32 :=
  kpart v3 v5 v19
    (View.readAt (Elt F) arg4.view (Rect.unit (s := S1x33x1024x256) (k0_off3 i k (BitVec.ofNat 32 j.val)) S1x1x256x256.size (k0_off3_inb i k j)).toLoadRect X_arg4)
    (View.readAt (Elt F) arg5.view (Rect.unit (s := S1x4x8448x128) (k0_off4 i k (BitVec.ofNat 32 (256 * j.val))) S1x1x256x128.size (k0_off4_inb i k j)).toLoadRect X_arg5)

/-- The sixteen tile products of head 2 in trip `k`. -/
def parts2 (j : Fin 16) : FVec F S768x128 .f32 :=
  kpart v3 v5 v26
    (View.readAt (Elt F) arg4.view (Rect.unit (s := S1x33x1024x256) (k0_off5 i k (BitVec.ofNat 32 j.val)) S1x1x256x256.size (k0_off5_inb i k j)).toLoadRect X_arg4)
    (View.readAt (Elt F) arg5.view (Rect.unit (s := S1x4x8448x128) (k0_off6 i k (BitVec.ofNat 32 (256 * j.val))) S1x1x256x128.size (k0_off6_inb i k j)).toLoadRect X_arg5)

/-- The sixteen tile products of head 3 in trip `k`. -/
def parts3 (j : Fin 16) : FVec F S768x128 .f32 :=
  kpart v3 v5 v33
    (View.readAt (Elt F) arg4.view (Rect.unit (s := S1x33x1024x256) (k0_off7 i k (BitVec.ofNat 32 j.val)) S1x1x256x256.size (k0_off7_inb i k j)).toLoadRect X_arg4)
    (View.readAt (Elt F) arg5.view (Rect.unit (s := S1x4x8448x128) (k0_off8 i k (BitVec.ofNat 32 (256 * j.val))) S1x1x256x128.size (k0_off8_inb i k j)).toLoadRect X_arg5)

/-- Trip `k` adds to each head's accumulator that head's sixteen tile products. -/
theorem tripL_eq :
    tripL_k0_t1 (F := F) 𝒱 c bd i arg2 harg2 arg3 harg3 arg4 harg4 arg5 harg5 arg6 harg6 arg7 harg7 arg8 harg8 v1 v3 v5 v12 v19 v26 v33 v87 X_arg4 X_arg5 k f_arg8 =
    [⟨Rect.unit ![3, 0, 0] ![1, 768, 128] inb_S4x768x128_S1x768x128_3_0_0,
        kacc (View.readAt (Elt F) arg8.view (Rect.unit (s := S4x768x128) ![3, 0, 0] S1x768x128.size inb_S4x768x128_S1x768x128_3_0_0).toLoadRect f_arg8)
          (sum16 (parts3 i arg4 arg5 v3 v5 v33 X_arg4 X_arg5 k))⟩,
     ⟨Rect.unit ![2, 0, 0] ![1, 768, 128] inb_S4x768x128_S1x768x128_2_0_0,
        kacc (View.readAt (Elt F) arg8.view (Rect.unit (s := S4x768x128) ![2, 0, 0] S1x768x128.size inb_S4x768x128_S1x768x128_2_0_0).toLoadRect f_arg8)
          (sum16 (parts2 i arg4 arg5 v3 v5 v26 X_arg4 X_arg5 k))⟩,
     ⟨Rect.unit ![1, 0, 0] ![1, 768, 128] inb_S4x768x128_S1x768x128_1_0_0,
        kacc (View.readAt (Elt F) arg8.view (Rect.unit (s := S4x768x128) ![1, 0, 0] S1x768x128.size inb_S4x768x128_S1x768x128_1_0_0).toLoadRect f_arg8)
          (sum16 (parts1 i arg4 arg5 v3 v5 v19 X_arg4 X_arg5 k))⟩,
     ⟨Rect.unit ![0, 0, 0] ![1, 768, 128] inb_S4x768x128_S1x768x128_0_0_0,
        kacc (View.readAt (Elt F) arg8.view (Rect.unit (s := S4x768x128) ![0, 0, 0] S1x768x128.size inb_S4x768x128_S1x768x128_0_0_0).toLoadRect f_arg8)
          (sum16 (parts0 i arg4 arg5 v3 v5 v12 X_arg4 X_arg5 k))⟩] := by
  unfold tripL_k0_t1 trip_k0_t1
  dsimp only
  refine congr (congrArg List.cons ?_) (congr (congrArg List.cons ?_) (congr (congrArg List.cons ?_)
    (congr (congrArg List.cons ?_) rfl)))
  all_goals refine congrArg _ ?_
  all_goals sl_unfold_words
  all_goals rfl
end trip

end Cert.KernelIdeal.Att
-- ==== Proof.Tile.lean ====
/- The tile products of the attention kernel read at an index, over the extended reals. -/
module

public import proofs.«01_k».proof.Proof.Body
public import Idealize.ShloMosaic.Lib.Pointwise
public import Idealize.ShloMosaic.Lib.ValueIdx
public import Idealize.ShloMosaic.Lib.WholeRead

@[expose] public section

set_option maxRecDepth 16384

noncomputable section
namespace Cert.KernelIdeal.Att
open Cert.KernelIdeal Cert.KernelIdeal.Gen Idealize.ShloMosaic Idealize.ShloMosaic.TcCoe Idealize.SL.Sem

theorem kpart_apply (sc sh : FVec Ideal S1x256 .f32) (q : FVec Ideal S768x256 .fp8e4m3) (kt : Vec Ideal S1x1x256x256 .fp8e4m3)
    (v : Vec Ideal S1x1x256x128 .bf16) (r : Fin 768) (c : Fin 128) :
    kpart (F := Ideal) sc sh q kt v (ix2 r c) =
      ∑ x : Fin 256, Ideal.exp2 ((∑ d : Fin 256, q (ix2 r d) * kt (ix4 0 0 d x)) * sc (ix2 0 x) - sh (ix2 0 x)) *
        v (ix4 0 0 x c) := by
  unfold kpart kexp
  pointwise
  rfl

theorem kacc_apply (a : Vec Ideal S1x768x128 .f32) (s : FVec Ideal S768x128 .f32) (r : Fin 768) (c : Fin 128) :
    kacc (F := Ideal) a s (ix3 0 r c) = a (ix3 0 r c) + s (ix2 r c) := by
  unfold kacc
  pointwise

theorem sum16_apply (p : Fin 16 → FVec Ideal S768x128 .f32) (r : Fin 768) (c : Fin 128) :
    sum16 (F := Ideal) p (ix2 r c) = ∑ j, p j (ix2 r c) := by
  simp only [Fin.sum_univ_castSucc, Fin.sum_univ_zero, zero_add]
  rfl

/-! ### Where the trips' loads lie -/

theorem trips_lat (i : grid0.Coords) (h : (i 1).val < 32) : (k0_t1_loop i).trips = 2 := by
  have e : ∀ n : Fin 33, n.val < 32 → Scf.trips 0#32 (Scalar.addi 0#32 (Scalar.muli (Scalar.divsi (Scalar.subi
    (Scalar.select (Scalar.cmpi .eq (BitVec.ofNat 32 n.val) 32#32) 0#32 2#32) 0#32) 1#32) 1#32)) 1#32 = 2 := by
    decide +kernel
  exact e (i 1) h

theorem trips_ctx (i : grid0.Coords) (h : (i 1).val = 32) : (k0_t1_loop i).trips = 0 := by
  have e : ∀ n : Fin 33, n.val = 32 → Scf.trips 0#32 (Scalar.addi 0#32 (Scalar.muli (Scalar.divsi (Scalar.subi
    (Scalar.select (Scalar.cmpi .eq (BitVec.ofNat 32 n.val) 32#32) 0#32 2#32) 0#32) 1#32) 1#32)) 1#32 = 0 := by
    decide +kernel
  exact e (i 1) h

theorem tile_word (n : ℕ) (hn : n < 2) (j : Fin 16) :
    (Scalar.indexCast (Scalar.addi (Scalar.muli (Scf.iv 0#32 1#32 n) 16#32) (BitVec.ofNat 32 j.val)) : Index).toNat
      = 16 * n + j.val := by
  have e : ∀ n : Fin 2, ∀ j : Fin 16, (Scalar.indexCast (Scalar.addi (Scalar.muli (Scf.iv 0#32 1#32 n.val) 16#32)
    (BitVec.ofNat 32 j.val)) : Index).toNat = 16 * n.val + j.val := by decide +kernel
  exact e ⟨n, hn⟩ j

theorem row_word (n : ℕ) (hn : n < 2) (j : Fin 16) :
    (Scalar.indexCast (Scalar.addi (Scalar.muli (Scf.iv 0#32 1#32 n) 4096#32) (BitVec.ofNat 32 (256 * j.val))) : Index).toNat
      = 256 * (16 * n + j.val) := by
  have e : ∀ n : Fin 2, ∀ j : Fin 16, (Scalar.indexCast (Scalar.addi (Scalar.muli (Scf.iv 0#32 1#32 n.val) 4096#32)
    (BitVec.ofNat 32 (256 * j.val))) : Index).toNat = 256 * (16 * n.val + j.val) := by decide +kernel
  exact e ⟨n, hn⟩ j

section offs
variable (i : grid0.Coords) (k : Fin (k0_t1_loop i).trips) (j : Fin 16)

theorem k_lt : k.val < 2 := Nat.lt_of_lt_of_le k.isLt (k0_t1_abs i).2.1

theorem off1_eq : k0_off1 i k (BitVec.ofNat 32 j.val) = ![0, 16 * k.val + j.val, 0, 0] := by
  rw [← tile_word k.val (k_lt i k) j]; rfl
theorem off3_eq : k0_off3 i k (BitVec.ofNat 32 j.val) = ![0, 16 * k.val + j.val, 256, 0] := by
  rw [← tile_word k.val (k_lt i k) j]; rfl
theorem off5_eq : k0_off5 i k (BitVec.ofNat 32 j.val) = ![0, 16 * k.val + j.val, 512, 0] := by
  rw [← tile_word k.val (k_lt i k) j]; rfl
theorem off7_eq : k0_off7 i k (BitVec.ofNat 32 j.val) = ![0, 16 * k.val + j.val, 768, 0] := by
  rw [← tile_word k.val (k_lt i k) j]; rfl
theorem off2_eq : k0_off2 i k (BitVec.ofNat 32 (256 * j.val)) = ![0, 0, 256 * (16 * k.val + j.val), 0] := by
  rw [← row_word k.val (k_lt i k) j]; rfl
theorem off4_eq : k0_off4 i k (BitVec.ofNat 32 (256 * j.val)) = ![0, 1, 256 * (16 * k.val + j.val), 0] := by
  rw [← row_word k.val (k_lt i k) j]; rfl
theorem off6_eq : k0_off6 i k (BitVec.ofNat 32 (256 * j.val)) = ![0, 2, 256 * (16 * k.val + j.val), 0] := by
  rw [← row_word k.val (k_lt i k) j]; rfl
theorem off8_eq : k0_off8 i k (BitVec.ofNat 32 (256 * j.val)) = ![0, 3, 256 * (16 * k.val + j.val), 0] := by
  rw [← row_word k.val (k_lt i k) j]; rfl
end offs

/-- A load of one key tile of one head. -/
theorem kt_read (arg4 : Memref sig .tc .vmem S1x33x1024x256 .fp8e4m3) (harg4 : arg4.IsWhole)
    (x2 : Vec Ideal S1x33x1024x256 .fp8e4m3) {off : Fin 4 → ℕ} (inb) (t : Fin 33) (h : Fin 4)
    (ho : off = ![0, t.val, 256 * h.val, 0]) (d x : Fin 256) :
    View.readAt (Elt Ideal) arg4.view (Rect.unit (s := S1x33x1024x256) off S1x1x256x256.size inb).toLoadRect
      (harg4.unread x2) (ix4 0 0 d x) = x2 (ix4 0 t ⟨256 * h.val + d.val, by omega⟩ x) := by
  subst ho
  rw [harg4.readAt_unread]
  congr 1
  funext a
  fin_cases a <;> apply Fin.ext <;> simp [LoadRect.idx, Rect.unit]

/-- A load of one value tile of one head. -/
theorem v_read (arg5 : Memref sig .tc .vmem S1x4x8448x128 .bf16) (harg5 : arg5.IsWhole)
    (x3 : Vec Ideal S1x4x8448x128 .bf16) {off : Fin 4 → ℕ} (inb) (t : Fin 33) (h : Fin 4)
    (ho : off = ![0, h.val, 256 * t.val, 0]) (x : Fin 256) (c : Fin 128) :
    View.readAt (Elt Ideal) arg5.view (Rect.unit (s := S1x4x8448x128) off S1x1x256x128.size inb).toLoadRect
      (harg5.unread x3) (ix4 0 0 x c) = x3 (ix4 0 h ⟨256 * t.val + x.val, by omega⟩ c) := by
  subst ho
  rw [harg5.readAt_unread]
  congr 1
  funext a
  fin_cases a <;> apply Fin.ext <;> simp [LoadRect.idx, Rect.unit]

end Cert.KernelIdeal.Att
-- ==== Proof.Scratch.lean ====
/- The accumulator through the context pass and the key loop, read at an index over the extended
   reals: each head's row ends holding the sum of its key tiles' products. -/
module

public import proofs.«01_k».proof.Proof.Tile

@[expose] public section

set_option maxRecDepth 16384

noncomputable section
namespace Cert.KernelIdeal.Att
open Cert.KernelIdeal Cert.KernelIdeal.Gen Idealize.ShloMosaic Idealize.ShloMosaic.TcCoe Idealize.SL.Sem

/-- One key tile's product at a query row and a value column, from the blocks the kernel holds. -/
def part (x0 : Vec Ideal S8x256 .f32) (x1 : Vec Ideal S1x256x3072 .fp8e4m3) (x2 : Vec Ideal S1x33x1024x256 .fp8e4m3)
    (x3 : Vec Ideal S1x4x8448x128 .bf16) (h : Fin 4) (t : Fin 33) (r : Fin 768) (c : Fin 128) : EReal :=
  ∑ x : Fin 256, Ideal.exp2 ((∑ d : Fin 256, x1 (ix3 0 ⟨r.val % 256, by omega⟩ ⟨768 * h.val + 256 * (r.val / 256) + d.val, by omega⟩) *
      x2 (ix4 0 t ⟨256 * h.val + d.val, by omega⟩ x)) * x0 (ix2 0 x) - x0 (ix2 1 x)) *
    x3 (ix4 0 h ⟨256 * t.val + x.val, by omega⟩ c)

/-- A store of another head's row leaves this head's row. -/
theorem read_head_miss (arg8 : Memref sig .tc .vmem S4x768x128 .f32) (f : BufTy.Contents (Elt Ideal) arg8.view.ty)
    (n : ℕ) (inb) (w : Vec Ideal S1x768x128 .f32) (L : List (View.Piece (Elt Ideal) S4x768x128 .f32))
    (h : Fin 4) (r : Fin 768) (c : Fin 128) (hn : h.val < n ∨ n + 1 ≤ h.val) :
    arg8.view.read (Elt Ideal) (arg8.view.writes (Elt Ideal) f
      (⟨Rect.unit (s := S4x768x128) ![n, 0, 0] ![1, 768, 128] inb, w⟩ :: L)) (ix3 h r c)
      = arg8.view.read (Elt Ideal) (arg8.view.writes (Elt Ideal) f L) (ix3 h r c) :=
  View.read_writes_cons_miss_of_axis _ _ _ _ _ 0 n 1 rfl rfl rfl hn

/-- A store of this head's row is read back. -/
theorem read_head_hit (arg8 : Memref sig .tc .vmem S4x768x128 .f32) (f : BufTy.Contents (Elt Ideal) arg8.view.ty)
    (n : ℕ) (inb) (w : Vec Ideal S1x768x128 .f32) (L : List (View.Piece (Elt Ideal) S4x768x128 .f32))
    (h : Fin 4) (r : Fin 768) (c : Fin 128) (hn : h.val = n) :
    arg8.view.read (Elt Ideal) (arg8.view.writes (Elt Ideal) f
      (⟨Rect.unit (s := S4x768x128) ![n, 0, 0] ![1, 768, 128] inb, w⟩ :: L)) (ix3 h r c)
      = w (ix3 0 r c) := by
  refine View.read_writes_cons_hit_of_coords _ _ (Rect.unit (s := S4x768x128) ![n, 0, 0] ![1, 768, 128] inb) w L
    (ix3 (0 : Fin 1) r c : (⟨3, ![1, 768, 128]⟩ : Shape).Idx) _ (fun a => ?_)
  subst hn
  fin_cases a <;> simp [Rect.unit]

/-- One store per head of a whole accumulator row: the row reads the head's payload. -/
theorem read_heads (arg8 : Memref sig .tc .vmem S4x768x128 .f32) (f : BufTy.Contents (Elt Ideal) arg8.view.ty)
    (w0 w1 w2 w3 : Vec Ideal S1x768x128 .f32) (G : Fin 4 → EReal) (h : Fin 4) (r : Fin 768) (c : Fin 128)
    (e0 : w0 (ix3 0 r c) = G 0) (e1 : w1 (ix3 0 r c) = G 1) (e2 : w2 (ix3 0 r c) = G 2) (e3 : w3 (ix3 0 r c) = G 3) :
    arg8.view.read (Elt Ideal) (arg8.view.writes (Elt Ideal) f
      [⟨Rect.unit ![3, 0, 0] ![1, 768, 128] inb_S4x768x128_S1x768x128_3_0_0, w3⟩,
       ⟨Rect.unit ![2, 0, 0] ![1, 768, 128] inb_S4x768x128_S1x768x128_2_0_0, w2⟩,
       ⟨Rect.unit ![1, 0, 0] ![1, 768, 128] inb_S4x768x128_S1x768x128_1_0_0, w1⟩,
       ⟨Rect.unit ![0, 0, 0] ![1, 768, 128] inb_S4x768x128_S1x768x128_0_0_0, w0⟩]) (ix3 h r c) = G h := by
  have hh : h = 0 ∨ h = 1 ∨ h = 2 ∨ h = 3 := by omega
  rcases hh with rfl | rfl | rfl | rfl
  · rw [read_head_miss _ _ 3 _ _ _ _ _ _ (Or.inl (by decide)), read_head_miss _ _ 2 _ _ _ _ _ _ (Or.inl (by decide)),
      read_head_miss _ _ 1 _ _ _ _ _ _ (Or.inl (by decide)), read_head_hit _ _ 0 _ _ _ _ _ _ rfl, e0]
  · rw [read_head_miss _ _ 3 _ _ _ _ _ _ (Or.inl (by decide)), read_head_miss _ _ 2 _ _ _ _ _ _ (Or.inl (by decide)),
      read_head_hit _ _ 1 _ _ _ _ _ _ rfl, e1]
  · rw [read_head_miss _ _ 3 _ _ _ _ _ _ (Or.inl (by decide)), read_head_hit _ _ 2 _ _ _ _ _ _ rfl, e2]
  · rw [read_head_hit _ _ 3 _ _ _ _ _ _ rfl, e3]

/-- A load of one head's accumulator row. -/
theorem readAt_head (arg8 : Memref sig .tc .vmem S4x768x128 .f32) (f : BufTy.Contents (Elt Ideal) arg8.view.ty)
    {off : Fin 3 → ℕ} (inb) (h : Fin 4) (ho : off = ![h.val, 0, 0]) (r : Fin 768) (c : Fin 128) :
    View.readAt (Elt Ideal) arg8.view (Rect.unit (s := S4x768x128) off S1x768x128.size inb).toLoadRect f (ix3 0 r c)
      = arg8.view.read (Elt Ideal) f (ix3 h r c) := by
  subst ho
  show arg8.view.read (Elt Ideal) f _ = _
  congr 1
  funext a
  fin_cases a <;> apply Fin.ext <;> simp [LoadRect.idx, Rect.unit]

/-- A head's three query heads stacked, from three loads of the query block. -/
theorem q_read (arg3 : Memref sig .tc .vmem S1x256x3072 .fp8e4m3) (harg3 : arg3.IsWhole)
    (x1 : Vec Ideal S1x256x3072 .fp8e4m3) {o0 o1 o2 : Fin 3 → ℕ} (i0 i1 i2) (h : Fin 4)
    (h0 : o0 = ![0, 0, 768 * h.val]) (h1 : o1 = ![0, 0, 768 * h.val + 256]) (h2 : o2 = ![0, 0, 768 * h.val + 512])
    (r : Fin 768) (d : Fin 256) :
    k0_pay158 (F := Ideal)
      (View.readAt (Elt Ideal) arg3.view (Rect.unit (s := S1x256x3072) o0 S1x256x256.size i0).toLoadRect (harg3.unread x1))
      (View.readAt (Elt Ideal) arg3.view (Rect.unit (s := S1x256x3072) o1 S1x256x256.size i1).toLoadRect (harg3.unread x1))
      (View.readAt (Elt Ideal) arg3.view (Rect.unit (s := S1x256x3072) o2 S1x256x256.size i2).toLoadRect (harg3.unread x1))
      (ix2 r d) = x1 (ix3 0 ⟨r.val % 256, by omega⟩ ⟨768 * h.val + 256 * (r.val / 256) + d.val, by omega⟩) := by
  have rd : ∀ (o : Fin 3 → ℕ) (ib) (n : ℕ) (ho : o = ![0, 0, n]) (a d : Fin 256) (hn : n + d.val < 3072),
      View.readAt (Elt Ideal) arg3.view (Rect.unit (s := S1x256x3072) o S1x256x256.size ib).toLoadRect (harg3.unread x1)
        (ix3 0 a d) = x1 (ix3 0 a ⟨n + d.val, hn⟩) := by
    intro o ib n ho a d hn
    subst ho
    rw [harg3.readAt_unread]
    congr 1
    funext a
    fin_cases a <;> apply Fin.ext <;> simp [LoadRect.idx, Rect.unit]
  unfold k0_pay158
  pointwise
  have hr := r.isLt
  have hd := d.isLt
  have hh := h.isLt
  by_cases c0 : r.val < 256
  · rw [dif_pos c0]
    refine (rd _ _ _ h0 ⟨r.val, c0⟩ d (by omega)).trans ?_
    exact congrArg₂ (fun a b => x1 (ix3 0 a b)) (Fin.ext (by show r.val = r.val % 256; omega))
      (Fin.ext (by show 768 * h.val + d.val = 768 * h.val + 256 * (r.val / 256) + d.val; omega))
  · rw [dif_neg c0]
    by_cases c1 : r.val - 256 < 256
    · rw [dif_pos c1]
      refine (rd _ _ _ h1 ⟨r.val - 256, c1⟩ d (by omega)).trans ?_
      exact congrArg₂ (fun a b => x1 (ix3 0 a b)) (Fin.ext (by show r.val - 256 = r.val % 256; omega))
        (Fin.ext (by show 768 * h.val + 256 + d.val = 768 * h.val + 256 * (r.val / 256) + d.val; omega))
    · rw [dif_neg c1]
      refine (rd _ _ _ h2 ⟨r.val - 256 - 256, by omega⟩ d (by omega)).trans ?_
      exact congrArg₂ (fun a b => x1 (ix3 0 a b)) (Fin.ext (by show r.val - 256 - 256 = r.val % 256; omega))
        (Fin.ext (by show 768 * h.val + 512 + d.val = 768 * h.val + 256 * (r.val / 256) + d.val; omega))

end Cert.KernelIdeal.Att
-- ==== Proof.Trips.lean ====
/- The key loop's trips read back: after the loop each head's accumulator row holds what it held
   before plus the products of every latent key tile (none for the context's own rows). -/
module

public import proofs.«01_k».proof.Proof.Scratch

@[expose] public section

set_option maxRecDepth 16384

noncomputable section
namespace Cert.KernelIdeal.Att
open Cert.KernelIdeal Cert.KernelIdeal.Gen Idealize.ShloMosaic Idealize.ShloMosaic.TcCoe Idealize.SL.Sem

/-- What the loop's loaded words are: the scale and shift rows and a head's stacked queries. -/
structure Words (x0 : Vec Ideal S8x256 .f32) (x1 : Vec Ideal S1x256x3072 .fp8e4m3) (v3 v5 : FVec Ideal S1x256 .f32)
    (q : Fin 4 → FVec Ideal S768x256 .fp8e4m3) : Prop where
  sc : ∀ x : Fin 256, v3 (ix2 0 x) = x0 (ix2 0 x)
  sh : ∀ x : Fin 256, v5 (ix2 0 x) = x0 (ix2 1 x)
  qs : ∀ (h : Fin 4) (r : Fin 768) (d : Fin 256), q h (ix2 r d) =
    x1 (ix3 0 ⟨r.val % 256, by omega⟩ ⟨768 * h.val + 256 * (r.val / 256) + d.val, by omega⟩)

theorem kpart_part {x0 : Vec Ideal S8x256 .f32} {x1 : Vec Ideal S1x256x3072 .fp8e4m3} {v3 v5 : FVec Ideal S1x256 .f32}
    {q : Fin 4 → FVec Ideal S768x256 .fp8e4m3} (W : Words x0 x1 v3 v5 q)
    (x2 : Vec Ideal S1x33x1024x256 .fp8e4m3) (x3 : Vec Ideal S1x4x8448x128 .bf16)
    (arg4 : Memref sig .tc .vmem S1x33x1024x256 .fp8e4m3) (harg4 : arg4.IsWhole)
    (arg5 : Memref sig .tc .vmem S1x4x8448x128 .bf16) (harg5 : arg5.IsWhole)
    {o4 o5 : Fin 4 → ℕ} (i4 i5) (h : Fin 4) (t : Fin 33)
    (e4 : o4 = ![0, t.val, 256 * h.val, 0]) (e5 : o5 = ![0, h.val, 256 * t.val, 0]) (r : Fin 768) (c : Fin 128) :
    kpart (F := Ideal) v3 v5 (q h)
      (View.readAt (Elt Ideal) arg4.view (Rect.unit (s := S1x33x1024x256) o4 S1x1x256x256.size i4).toLoadRect (harg4.unread x2))
      (View.readAt (Elt Ideal) arg5.view (Rect.unit (s := S1x4x8448x128) o5 S1x1x256x128.size i5).toLoadRect (harg5.unread x3))
      (ix2 r c) = part x0 x1 x2 x3 h t r c := by
  rw [kpart_apply]
  unfold part
  refine Finset.sum_congr rfl fun x _ => ?_
  rw [W.sc, W.sh, v_read arg5 harg5 x3 i5 t h e5]
  refine congrArg (fun s => Ideal.exp2 (s * _ - _) * _) (Finset.sum_congr rfl fun d _ => ?_)
  rw [W.qs, kt_read arg4 harg4 x2 i4 t h e4]

section loop
variable (𝒱 : Variants) (c : Dev nD) (bd : Option 𝒱.V) (i : grid0.Coords) (arg2 : Memref sig .tc .vmem S8x256 .f32) (harg2 : arg2.IsWhole) (arg3 : Memref sig .tc .vmem S1x256x3072 .fp8e4m3) (harg3 : arg3.IsWhole) (arg4 : Memref sig .tc .vmem S1x33x1024x256 .fp8e4m3) (harg4 : arg4.IsWhole) (arg5 : Memref sig .tc .vmem S1x4x8448x128 .bf16) (harg5 : arg5.IsWhole) (arg6 : Memref sig .tc .vmem S1x256x768 .bf16) (harg6 : arg6.IsWhole) (arg7 : Memref sig .tc .vmem S1x768x128 .f32) (harg7 : arg7.IsWhole) (arg8 : Memref sig .tc .vmem S4x768x128 .f32) (harg8 : arg8.IsWhole)
  (v1 : BitVec 32) (v3 : FVec Ideal S1x256 .f32) (v5 : FVec Ideal S1x256 .f32) (v12 v19 v26 v33 : FVec Ideal S768x256 .fp8e4m3) (v87 : FVec Ideal S768x256 .bf16)
  (x0 : Vec Ideal S8x256 .f32) (x1 : Vec Ideal S1x256x3072 .fp8e4m3) (x2 : Vec Ideal S1x33x1024x256 .fp8e4m3) (x3 : Vec Ideal S1x4x8448x128 .bf16)

/-- One trip adds sixteen tile products to each row. -/
theorem trip_read (W : Words x0 x1 v3 v5 ![v12, v19, v26, v33]) (k : Fin (k0_t1_loop i).trips)
    (f : BufTy.Contents (Elt Ideal) arg8.view.ty) (h : Fin 4) (r : Fin 768) (cc : Fin 128) :
    arg8.view.read (Elt Ideal) (arg8.view.writes (Elt Ideal) f (tripL_k0_t1 (F := Ideal) 𝒱 c bd i arg2 harg2 arg3 harg3 arg4 harg4 arg5 harg5 arg6 harg6 arg7 harg7 arg8 harg8 v1 v3 v5 v12 v19 v26 v33 v87 (harg4.unread x2) (harg5.unread x3) k f)) (ix3 h r cc)
      = arg8.view.read (Elt Ideal) f (ix3 h r cc) +
        ∑ j : Fin 16, part x0 x1 x2 x3 h ⟨16 * k.val + j.val, by have := k_lt i k; omega⟩ r cc := by
  rw [tripL_eq]
  refine read_heads arg8 f _ _ _ _ (fun h => arg8.view.read (Elt Ideal) f (ix3 h r cc) +
        ∑ j : Fin 16, part x0 x1 x2 x3 h ⟨16 * k.val + j.val, by have := k_lt i k; omega⟩ r cc) h r cc ?_ ?_ ?_ ?_
  · rw [kacc_apply, sum16_apply]
    refine congrArg₂ (· + ·) (readAt_head arg8 f _ 0 rfl r cc) (Finset.sum_congr rfl fun j _ => ?_)
    exact kpart_part W x2 x3 arg4 harg4 arg5 harg5 _ _ 0 ⟨16 * k.val + j.val, by have := k_lt i k; omega⟩
      (off1_eq i k j) (off2_eq i k j) r cc
  · rw [kacc_apply, sum16_apply]
    refine congrArg₂ (· + ·) (readAt_head arg8 f _ 1 rfl r cc) (Finset.sum_congr rfl fun j _ => ?_)
    exact kpart_part W x2 x3 arg4 harg4 arg5 harg5 _ _ 1 ⟨16 * k.val + j.val, by have := k_lt i k; omega⟩
      (off3_eq i k j) (off4_eq i k j) r cc
  · rw [kacc_apply, sum16_apply]
    refine congrArg₂ (· + ·) (readAt_head arg8 f _ 2 rfl r cc) (Finset.sum_congr rfl fun j _ => ?_)
    exact kpart_part W x2 x3 arg4 harg4 arg5 harg5 _ _ 2 ⟨16 * k.val + j.val, by have := k_lt i k; omega⟩
      (off5_eq i k j) (off6_eq i k j) r cc
  · rw [kacc_apply, sum16_apply]
    refine congrArg₂ (· + ·) (readAt_head arg8 f _ 3 rfl r cc) (Finset.sum_congr rfl fun j _ => ?_)
    exact kpart_part W x2 x3 arg4 harg4 arg5 harg5 _ _ 3 ⟨16 * k.val + j.val, by have := k_lt i k; omega⟩
      (off7_eq i k j) (off8_eq i k j) r cc

/-- The whole loop. -/
theorem loop_read (W : Words x0 x1 v3 v5 ![v12, v19, v26, v33])
    (G : BufTy.Contents (Elt Ideal) arg8.view.ty) (h : Fin 4) (r : Fin 768) (cc : Fin 128) :
    arg8.view.read (Elt Ideal) (arg8.view.writes (Elt Ideal) G (pb_k0_t1 (F := Ideal) 𝒱 c bd i arg2 harg2 arg3 harg3 arg4 harg4 arg5 harg5 arg6 harg6 arg7 harg7 arg8 harg8 v1 v3 v5 v12 v19 v26 v33 v87 (harg4.unread x2) (harg5.unread x3) G (k0_t1_loop i).trips)) (ix3 h r cc)
      = arg8.view.read (Elt Ideal) G (ix3 h r cc) +
        if (i 1).val < 32 then ∑ t : Fin 32, part x0 x1 x2 x3 h t.castSucc r cc else 0 := by
  split_ifs with hi
  · have ht := trips_lat i hi
    have k0 : 0 < (k0_t1_loop i).trips := by omega
    have k1 : 1 < (k0_t1_loop i).trips := by omega
    have s0 := pb_k0_t1_succ (F := Ideal) 𝒱 c bd i arg2 harg2 arg3 harg3 arg4 harg4 arg5 harg5 arg6 harg6 arg7 harg7 arg8 harg8 v1 v3 v5 v12 v19 v26 v33 v87 (harg4.unread x2) (harg5.unread x3) G ⟨0, k0⟩
    have s1 := pb_k0_t1_succ (F := Ideal) 𝒱 c bd i arg2 harg2 arg3 harg3 arg4 harg4 arg5 harg5 arg6 harg6 arg7 harg7 arg8 harg8 v1 v3 v5 v12 v19 v26 v33 v87 (harg4.unread x2) (harg5.unread x3) G ⟨1, k1⟩
    rw [ht]
    refine Eq.trans (congrArg (fun L => arg8.view.read (Elt Ideal) (arg8.view.writes (Elt Ideal) G L) (ix3 h r cc)) s1) ?_
    dsimp only
    rw [View.writes_append, trip_read (W := W)]
    refine Eq.trans (congrArg (fun L => arg8.view.read (Elt Ideal) (arg8.view.writes (Elt Ideal) G L) (ix3 h r cc) + _) s0) ?_
    dsimp only
    rw [View.writes_append, trip_read (W := W)]
    show arg8.view.read (Elt Ideal) G (ix3 h r cc) + _ + _ = _
    rw [add_assoc]
    refine congrArg _ ?_
    rw [show (∑ t : Fin 32, part x0 x1 x2 x3 h t.castSucc r cc) = ∑ t : Fin (16 + 16), part x0 x1 x2 x3 h (Fin.castSucc (n := 32) t) r cc from rfl, Fin.sum_univ_add]
    refine congrArg₂ _ (Finset.sum_congr rfl fun j _ => ?_) (Finset.sum_congr rfl fun j _ => ?_)
    · exact congrArg (fun t => part x0 x1 x2 x3 h t r cc) (Fin.ext (by show 16 * 0 + j.val = j.val; omega))
    · exact congrArg (fun t => part x0 x1 x2 x3 h t r cc) (Fin.ext (by show 16 * 1 + j.val = 16 + j.val; omega))
  · have ht := trips_ctx i (by have : (i 1).val < 33 := (i 1).isLt; omega)
    rw [ht, add_zero]
    rfl
end loop

end Cert.KernelIdeal.Att
-- ==== Proof.Out.lean ====
/- The kernel's output block: every value lane divided by its row's sum of weights. -/
module

public import proofs.«01_k».proof.Proof.Trips

@[expose] public section

set_option maxRecDepth 16384

noncomputable section
namespace Cert.KernelIdeal.Att
open Cert.KernelIdeal Cert.KernelIdeal.Gen Idealize.ShloMosaic Idealize.ShloMosaic.TcCoe Idealize.SL.Sem

/-- A lane times the reciprocal of the lane half a register away. -/
theorem quot_apply (v : Vec Ideal S1x768x128 .f32) (r : Fin 768) (l : Fin 128) :
    k0_pay170 (F := Ideal) v (ix2 r l) = v (ix3 0 r l) * Ideal.div 1 (v (ix3 0 r ⟨(l.val + 64) % 128, by omega⟩)) := by
  unfold k0_pay170
  pointwise
  refine congrArg (fun n => v (ix3 0 r l) * Ideal.div 1 (v (ix3 0 r n))) (Fin.ext ?_)
  show (l.val + 128 - 64) % 128 = (l.val + 64) % 128
  congr 1

/-- Two heads' halves side by side. -/
theorem slab_apply (x y : FVec Ideal S256x128 .f32) (a : Fin 256) (l : Fin 128) :
    k0_pay188 (F := Ideal) x y (ix3 0 a l) = if l.val < 64 then x (ix2 a l) else y (ix2 a ⟨(l.val + 64) % 128, by omega⟩) := by
  unfold k0_pay188 k0_pay187
  pointwise
  have e : ∀ l : Fin 128, IntOp.cmpi CmpIPredicate.slt (BitVec.ofNat 32 l.val) 64#32 = if l.val < 64 then 1#1 else 0#1 := by
    decide +kernel
  rw [e]
  by_cases hl : l.val < 64
  · rw [if_pos hl, if_pos hl]; rfl
  · rw [if_neg hl, if_neg hl]
    refine congrArg (fun n => y (ix2 a n)) (Fin.ext ?_)
    show (l.val + 128 - 64) % 128 = (l.val + 64) % 128
    congr 1

theorem rows_apply (v : Vec Ideal S1x768x128 .f32) (a : Fin 256) (l : Fin 128) :
    k0_pay171 (F := Ideal) v (ix2 a l) = k0_pay170 (F := Ideal) v (ix2 ⟨a.val, by omega⟩ l) ∧
    k0_pay172 (F := Ideal) v (ix2 a l) = k0_pay170 (F := Ideal) v (ix2 ⟨256 + a.val, by omega⟩ l) ∧
    k0_pay173 (F := Ideal) v (ix2 a l) = k0_pay170 (F := Ideal) v (ix2 ⟨512 + a.val, by omega⟩ l) := by
  refine ⟨?_, ?_, ?_⟩
  · unfold k0_pay171
    pointwise
  · unfold k0_pay172
    pointwise
  · unfold k0_pay173
    pointwise

section run
variable (c : Dev nD) (i : grid0.Coords) (arg2 : Memref sig .tc .vmem S8x256 .f32) (harg2 : arg2.IsWhole) (arg3 : Memref sig .tc .vmem S1x256x3072 .fp8e4m3) (harg3 : arg3.IsWhole) (arg4 : Memref sig .tc .vmem S1x33x1024x256 .fp8e4m3) (harg4 : arg4.IsWhole) (arg5 : Memref sig .tc .vmem S1x4x8448x128 .bf16) (harg5 : arg5.IsWhole) (arg6 : Memref sig .tc .vmem S1x256x768 .bf16) (harg6 : arg6.IsWhole) (arg7 : Memref sig .tc .vmem S1x768x128 .f32) (harg7 : arg7.IsWhole) (arg8 : Memref sig .tc .vmem S4x768x128 .f32) (harg8 : arg8.IsWhole)
    (x0 : Vec Ideal S8x256 .f32) (x1 : Vec Ideal S1x256x3072 .fp8e4m3) (x2 : Vec Ideal S1x33x1024x256 .fp8e4m3) (x3 : Vec Ideal S1x4x8448x128 .bf16)

/-- The loaded words of the run. -/
theorem run_words : Words x0 x1 (kernelRun0_A.sl.r (F := Ideal) c arg2 harg2 x0) (kernelRun0_A.sl.r_1 c arg2 harg2 x0)
    ![kernelRun0_A.sl.r_2 c arg3 harg3 x1, kernelRun0_A.sl.r_3 c arg3 harg3 x1, kernelRun0_A.sl.r_6 c arg3 harg3 x1, kernelRun0_A.sl.r_7 c arg3 harg3 x1] where
  sc x := by
    unfold kernelRun0_A.sl.r k0_pay156
    pointwise
    rw [harg2.readAt_unread]
    congr 1
    funext a
    fin_cases a <;> apply Fin.ext <;> simp [LoadRect.idx, Rect.unit]
  sh x := by
    unfold kernelRun0_A.sl.r_1 k0_pay157
    pointwise
    rw [harg2.readAt_unread]
    congr 1
    funext a
    fin_cases a <;> apply Fin.ext <;> simp [LoadRect.idx, Rect.unit]
  qs h r d := by
    have hh : h = 0 ∨ h = 1 ∨ h = 2 ∨ h = 3 := by omega
    rcases hh with rfl | rfl | rfl | rfl
    · exact q_read arg3 harg3 x1 _ _ _ 0 rfl rfl rfl r d
    · exact q_read arg3 harg3 x1 _ _ _ 1 rfl rfl rfl r d
    · exact q_read arg3 harg3 x1 _ _ _ 2 rfl rfl rfl r d
    · exact q_read arg3 harg3 x1 _ _ _ 3 rfl rfl rfl r d

/-- A row's accumulated products: the context tile, and every latent tile for a latent row. -/
def accum (h : Fin 4) (r : Fin 768) (l : Fin 128) : EReal :=
  part x0 x1 x2 x3 h 32 r l + if (i 1).val < 32 then ∑ t : Fin 32, part x0 x1 x2 x3 h t.castSucc r l else 0

/-- The context pass writes each head's context tile. -/
theorem ctx_read (f : BufTy.Contents (Elt Ideal) arg8.view.ty) (h : Fin 4) (r : Fin 768) (l : Fin 128) :
    arg8.view.read (Elt Ideal) (arg8.view.writes (Elt Ideal) f
      (kernelRun0_A.sl.HS1_4 (F := Ideal) c arg2 harg2 arg3 harg3 arg4 harg4 arg5 harg5 x0 x1 x2 x3)) (ix3 h r l) = part x0 x1 x2 x3 h 32 r l := by
  have W := run_words c arg2 harg2 arg3 harg3 x0 x1
  have e : ∀ (p : FVec Ideal S768x128 .f32), shapeCast S1x768x128 p shapeCasts_S768x128_S1x768x128 (ix3 0 r l) = p (ix2 r l) := by
    intro p
    pointwise
  refine read_heads arg8 f _ _ _ _ (fun h => part x0 x1 x2 x3 h 32 r l) h r l ?_ ?_ ?_ ?_
  · exact (e _).trans (kpart_part W x2 x3 arg4 harg4 arg5 harg5 inb_S1x33x1024x256_S1x1x256x256_0_32_0_0 inb_S1x4x8448x128_S1x1x256x128_0_0_8192_0 0 32 rfl rfl r l)
  · exact (e _).trans (kpart_part W x2 x3 arg4 harg4 arg5 harg5 inb_S1x33x1024x256_S1x1x256x256_0_32_256_0 inb_S1x4x8448x128_S1x1x256x128_0_1_8192_0 1 32 rfl rfl r l)
  · exact (e _).trans (kpart_part W x2 x3 arg4 harg4 arg5 harg5 inb_S1x33x1024x256_S1x1x256x256_0_32_512_0 inb_S1x4x8448x128_S1x1x256x128_0_2_8192_0 2 32 rfl rfl r l)
  · exact (e _).trans (kpart_part W x2 x3 arg4 harg4 arg5 harg5 inb_S1x33x1024x256_S1x1x256x256_0_32_768_0 inb_S1x4x8448x128_S1x1x256x128_0_3_8192_0 3 32 rfl rfl r l)

theorem trips_rem (i : grid0.Coords) : Scf.trips (k0_t2_loop i).lb (k0_t2_loop i).ub (k0_t2_loop i).st = 0 := by
  have e : ∀ n : Fin 33, Scf.trips (Scalar.addi 0#32 (Scalar.muli (Scalar.divsi (Scalar.subi
    (Scalar.select (Scalar.cmpi .eq (BitVec.ofNat 32 n.val) 32#32) 0#32 2#32) 0#32) 1#32) 1#32))
    (Scalar.addi 0#32 (Scalar.subi (Scalar.select (Scalar.cmpi .eq (BitVec.ofNat 32 n.val) 32#32) 0#32 2#32) 0#32)) 1#32 = 0 := by
    decide +kernel
  exact e (i 1)

/-- Each head's row at the end. -/
def accs : Fin 4 → Vec Ideal S1x768x128 .f32 :=
  ![kernelRun0_A.sl.v99 c i arg2 harg2 arg3 harg3 arg4 harg4 arg5 harg5 arg6 harg6 arg7 harg7 arg8 harg8 x0 x1 x2 x3,
    kernelRun0_A.sl.v108 c i arg2 harg2 arg3 harg3 arg4 harg4 arg5 harg5 arg6 harg6 arg7 harg7 arg8 harg8 x0 x1 x2 x3,
    kernelRun0_A.sl.v117 c i arg2 harg2 arg3 harg3 arg4 harg4 arg5 harg5 arg6 harg6 arg7 harg7 arg8 harg8 x0 x1 x2 x3,
    kernelRun0_A.sl.v126 c i arg2 harg2 arg3 harg3 arg4 harg4 arg5 harg5 arg6 harg6 arg7 harg7 arg8 harg8 x0 x1 x2 x3]

theorem accs_apply (h : Fin 4) (r : Fin 768) (l : Fin 128) :
    accs c i arg2 harg2 arg3 harg3 arg4 harg4 arg5 harg5 arg6 harg6 arg7 harg7 arg8 harg8 x0 x1 x2 x3 h (ix3 0 r l) = accum i x0 x1 x2 x3 h r l := by
  have key : ∀ (off : Fin 3 → ℕ) (inb) (ho : off = ![h.val, 0, 0]),
      View.readCov (Val := Elt Ideal) arg8.view (pb_k0_t2 (F := Ideal) Variants.none c none i arg2 harg2 arg3 harg3 arg4 harg4 arg5 harg5 arg6 harg6 arg7 harg7 arg8 harg8 (kernelRun0_A.sl.v1 i) (kernelRun0_A.sl.r c arg2 harg2 x0) (kernelRun0_A.sl.r_1 c arg2 harg2 x0) (kernelRun0_A.sl.r_2 c arg3 harg3 x1) (kernelRun0_A.sl.r_3 c arg3 harg3 x1) (kernelRun0_A.sl.r_6 c arg3 harg3 x1) (kernelRun0_A.sl.r_7 c arg3 harg3 x1) (kernelRun0_A.sl.r_9 c arg2 harg2 arg3 harg3 arg4 harg4 x0 x1 x2) (kernelRun0_A.sl.v98 i) (harg4.unread x2) (harg5.unread x3) (arg8.view.writes (Elt Ideal) arg8.view.junk (pb_k0_t1 Variants.none c none i arg2 harg2 arg3 harg3 arg4 harg4 arg5 harg5 arg6 harg6 arg7 harg7 arg8 harg8 (kernelRun0_A.sl.v1 i) (kernelRun0_A.sl.r c arg2 harg2 x0) (kernelRun0_A.sl.r_1 c arg2 harg2 x0) (kernelRun0_A.sl.r_2 c arg3 harg3 x1) (kernelRun0_A.sl.r_3 c arg3 harg3 x1) (kernelRun0_A.sl.r_6 c arg3 harg3 x1) (kernelRun0_A.sl.r_7 c arg3 harg3 x1) (kernelRun0_A.sl.r_9 c arg2 harg2 arg3 harg3 arg4 harg4 x0 x1 x2) (harg4.unread x2) (harg5.unread x3) (arg8.view.writes (Elt Ideal) arg8.view.junk (kernelRun0_A.sl.HS1_4 c arg2 harg2 arg3 harg3 arg4 harg4 arg5 harg5 x0 x1 x2 x3)) (Scf.trips (k0_t1_loop i).lb (k0_t1_loop i).ub (k0_t1_loop i).st) ++ kernelRun0_A.sl.HS1_4 c arg2 harg2 arg3 harg3 arg4 harg4 arg5 harg5 x0 x1 x2 x3)) (Scf.trips (k0_t2_loop i).lb (k0_t2_loop i).ub (k0_t2_loop i).st) ++ (pb_k0_t1 Variants.none c none i arg2 harg2 arg3 harg3 arg4 harg4 arg5 harg5 arg6 harg6 arg7 harg7 arg8 harg8 (kernelRun0_A.sl.v1 i) (kernelRun0_A.sl.r c arg2 harg2 x0) (kernelRun0_A.sl.r_1 c arg2 harg2 x0) (kernelRun0_A.sl.r_2 c arg3 harg3 x1) (kernelRun0_A.sl.r_3 c arg3 harg3 x1) (kernelRun0_A.sl.r_6 c arg3 harg3 x1) (kernelRun0_A.sl.r_7 c arg3 harg3 x1) (kernelRun0_A.sl.r_9 c arg2 harg2 arg3 harg3 arg4 harg4 x0 x1 x2) (harg4.unread x2) (harg5.unread x3) (arg8.view.writes (Elt Ideal) arg8.view.junk (kernelRun0_A.sl.HS1_4 c arg2 harg2 arg3 harg3 arg4 harg4 arg5 harg5 x0 x1 x2 x3)) (Scf.trips (k0_t1_loop i).lb (k0_t1_loop i).ub (k0_t1_loop i).st) ++ kernelRun0_A.sl.HS1_4 c arg2 harg2 arg3 harg3 arg4 harg4 arg5 harg5 x0 x1 x2 x3)) (Rect.unit (s := S4x768x128) off S1x768x128.size inb).toLoadRect (ix3 0 r l)
      = accum i x0 x1 x2 x3 h r l := by
    intro off inb ho
    refine (readAt_head arg8 _ inb h ho r l).trans ?_
    rw [trips_rem i]
    rw [pb_k0_t2.eq_1, List.nil_append, View.writes_append]
    refine (loop_read Variants.none c none i arg2 harg2 arg3 harg3 arg4 harg4 arg5 harg5 arg6 harg6 arg7 harg7 arg8 harg8 _ _ _ _ _ _ _ _ x0 x1 x2 x3 (run_words c arg2 harg2 arg3 harg3 x0 x1) _ h r l).trans ?_
    rw [ctx_read]
    rfl
  have hh : h = 0 ∨ h = 1 ∨ h = 2 ∨ h = 3 := by omega
  rcases hh with rfl | rfl | rfl | rfl
  · exact key _ inb_S4x768x128_S1x768x128_0_0_0 rfl
  · exact key _ inb_S4x768x128_S1x768x128_1_0_0 rfl
  · exact key _ inb_S4x768x128_S1x768x128_2_0_0 rfl
  · exact key _ inb_S4x768x128_S1x768x128_3_0_0 rfl

/-- The six stores of the output block. -/
theorem out_pieces :
    (kernelRun0_A (F := Ideal) c i arg2 harg2 arg3 harg3 arg4 harg4 arg5 harg5 arg6 harg6 arg7 harg7 arg8 harg8 x0 x1 x2 x3).1 =
      [⟨Rect.unit ![0, 0, 640] ![1, 256, 128] inb_S1x256x768_S1x256x128_0_0_640, k0_pay188 (k0_pay172 (accs c i arg2 harg2 arg3 harg3 arg4 harg4 arg5 harg5 arg6 harg6 arg7 harg7 arg8 harg8 x0 x1 x2 x3 3)) (k0_pay173 (accs c i arg2 harg2 arg3 harg3 arg4 harg4 arg5 harg5 arg6 harg6 arg7 harg7 arg8 harg8 x0 x1 x2 x3 3))⟩,
       ⟨Rect.unit ![0, 0, 512] ![1, 256, 128] inb_S1x256x768_S1x256x128_0_0_512, k0_pay188 (k0_pay173 (accs c i arg2 harg2 arg3 harg3 arg4 harg4 arg5 harg5 arg6 harg6 arg7 harg7 arg8 harg8 x0 x1 x2 x3 2)) (k0_pay171 (accs c i arg2 harg2 arg3 harg3 arg4 harg4 arg5 harg5 arg6 harg6 arg7 harg7 arg8 harg8 x0 x1 x2 x3 3))⟩,
       ⟨Rect.unit ![0, 0, 384] ![1, 256, 128] inb_S1x256x768_S1x256x128_0_0_384, k0_pay188 (k0_pay171 (accs c i arg2 harg2 arg3 harg3 arg4 harg4 arg5 harg5 arg6 harg6 arg7 harg7 arg8 harg8 x0 x1 x2 x3 2)) (k0_pay172 (accs c i arg2 harg2 arg3 harg3 arg4 harg4 arg5 harg5 arg6 harg6 arg7 harg7 arg8 harg8 x0 x1 x2 x3 2))⟩,
       ⟨Rect.unit ![0, 0, 256] ![1, 256, 128] inb_S1x256x768_S1x256x128_0_0_256, k0_pay188 (k0_pay172 (accs c i arg2 harg2 arg3 harg3 arg4 harg4 arg5 harg5 arg6 harg6 arg7 harg7 arg8 harg8 x0 x1 x2 x3 1)) (k0_pay173 (accs c i arg2 harg2 arg3 harg3 arg4 harg4 arg5 harg5 arg6 harg6 arg7 harg7 arg8 harg8 x0 x1 x2 x3 1))⟩,
       ⟨Rect.unit ![0, 0, 128] ![1, 256, 128] inb_S1x256x768_S1x256x128_0_0_128, k0_pay188 (k0_pay173 (accs c i arg2 harg2 arg3 harg3 arg4 harg4 arg5 harg5 arg6 harg6 arg7 harg7 arg8 harg8 x0 x1 x2 x3 0)) (k0_pay171 (accs c i arg2 harg2 arg3 harg3 arg4 harg4 arg5 harg5 arg6 harg6 arg7 harg7 arg8 harg8 x0 x1 x2 x3 1))⟩,
       ⟨Rect.unit ![0, 0, 0] ![1, 256, 128] inb_S1x256x768_S1x256x128_0_0_0, k0_pay188 (k0_pay171 (accs c i arg2 harg2 arg3 harg3 arg4 harg4 arg5 harg5 arg6 harg6 arg7 harg7 arg8 harg8 x0 x1 x2 x3 0)) (k0_pay172 (accs c i arg2 harg2 arg3 harg3 arg4 harg4 arg5 harg5 arg6 harg6 arg7 harg7 arg8 harg8 x0 x1 x2 x3 0))⟩] := by
  unfold kernelRun0_A
  rfl

/-- The output block at a row and a channel: head `n = channel / 64`, lane `channel % 64`. -/
def outv (a : Fin 256) (n : Fin 12) (l : Fin 64) : EReal :=
  accum i x0 x1 x2 x3 ⟨n.val / 3, by omega⟩ ⟨256 * (n.val % 3) + a.val, by omega⟩ ⟨l.val, by omega⟩ *
    Ideal.div 1 (accum i x0 x1 x2 x3 ⟨n.val / 3, by omega⟩ ⟨256 * (n.val % 3) + a.val, by omega⟩ ⟨l.val + 64, by omega⟩)

theorem head_apply (h : Fin 4) (g : Fin 3) (a : Fin 256) (l : Fin 128) (n : Fin 12) (m : Fin 64) (hn : n.val = 3 * h.val + g.val)
    (hl : l.val = m.val) (f : FVec Ideal S256x128 .f32)
    (hf : f (ix2 a l) = k0_pay170 (F := Ideal) (accs c i arg2 harg2 arg3 harg3 arg4 harg4 arg5 harg5 arg6 harg6 arg7 harg7 arg8 harg8 x0 x1 x2 x3 h) (ix2 ⟨256 * g.val + a.val, by omega⟩ l)) :
    f (ix2 a l) = outv i x0 x1 x2 x3 a n m := by
  rw [hf, quot_apply, accs_apply, accs_apply]
  unfold outv
  have e1 : h = ⟨n.val / 3, by omega⟩ := Fin.ext (by show h.val = n.val / 3; omega)
  have e2 : (⟨256 * g.val + a.val, by omega⟩ : Fin 768) = ⟨256 * (n.val % 3) + a.val, by omega⟩ := Fin.ext (by show 256 * g.val + a.val = 256 * (n.val % 3) + a.val; omega)
  have e3 : l = ⟨m.val, by omega⟩ := Fin.ext hl
  have e4 : (⟨(l.val + 64) % 128, by omega⟩ : Fin 128) = ⟨m.val + 64, by omega⟩ := Fin.ext (by show (l.val + 64) % 128 = m.val + 64; omega)
  rw [e4, ← e2, ← e3, ← e1]

theorem slab_out (j : Fin 6) (x y : FVec Ideal S256x128 .f32)
    (hx : ∀ (a : Fin 256) (l : Fin 128) (m : Fin 64), l.val = m.val → x (ix2 a l) = outv i x0 x1 x2 x3 a ⟨2 * j.val, by omega⟩ m)
    (hy : ∀ (a : Fin 256) (l : Fin 128) (m : Fin 64), l.val = m.val → y (ix2 a l) = outv i x0 x1 x2 x3 a ⟨2 * j.val + 1, by omega⟩ m)
    (a : Fin 256) (l : Fin 128) :
    k0_pay188 (F := Ideal) x y (ix3 0 a l) =
      outv i x0 x1 x2 x3 a ⟨(128 * j.val + l.val) / 64, by omega⟩ ⟨(128 * j.val + l.val) % 64, by omega⟩ := by
  rw [slab_apply]
  split_ifs with hl
  · rw [hx a l ⟨(128 * j.val + l.val) % 64, by omega⟩ (by show l.val = (128 * j.val + l.val) % 64; omega)]
    exact congrArg (fun n => outv i x0 x1 x2 x3 a n _) (Fin.ext (by show 2 * j.val = (128 * j.val + l.val) / 64; omega))
  · rw [hy a ⟨(l.val + 64) % 128, by omega⟩ ⟨(128 * j.val + l.val) % 64, by omega⟩ (by show (l.val + 64) % 128 = (128 * j.val + l.val) % 64; omega)]
    exact congrArg (fun n => outv i x0 x1 x2 x3 a n _) (Fin.ext (by show 2 * j.val + 1 = (128 * j.val + l.val) / 64; omega))

/-- What the kernel leaves in its output block. -/
theorem out_apply (a : Fin 256) (ch : Fin 768) :
    out0_A_4 (F := Ideal) c i arg2 harg2 arg3 harg3 arg4 harg4 arg5 harg5 arg6 harg6 arg7 harg7 arg8 harg8 x0 x1 x2 x3 (ix3 0 a ch) = outv i x0 x1 x2 x3 a ⟨ch.val / 64, by omega⟩ ⟨ch.val % 64, by omega⟩ := by
  have cov := cover0_A_4 (F := Ideal) c i arg2 harg2 arg3 harg3 arg4 harg4 arg5 harg5 arg6 harg6 arg7 harg7 arg8 harg8 x0 x1 x2 x3 (ix3 0 a ch)
  unfold out0_A_4
  rw [out_pieces] at cov ⊢
  refine View.read_writes_apply_of_pieces _ _ (fun y : S1x256x768.Idx => outv i x0 x1 x2 x3 (y 1) ⟨(y 2).val / 64, by have : (y 2).val < 768 := (y 2).isLt; omega⟩ ⟨(y 2).val % 64, by omega⟩) _ ?_ (ix3 0 a ch) cov
  clear cov
  have hx : ∀ x : (⟨3, ![1, 256, 128]⟩ : Shape).Idx, ∃ (a : Fin 256) (l : Fin 128), x = ix3 0 a l := by
    intro x
    refine ⟨x 1, x 2, funext fun k => ?_⟩
    have h0 : (x 0).val < 1 := (x 0).isLt
    fin_cases k
    · exact Fin.ext (by show (x 0).val = 0; omega)
    · rfl
    · rfl
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
    fun p hp => absurd hp List.not_mem_nil⟩⟩⟩⟩⟩⟩
  · obtain ⟨a, l, rfl⟩ := hx x
    refine (slab_out i x0 x1 x2 x3 5 _ _ (fun a l m hl => head_apply c i arg2 harg2 arg3 harg3 arg4 harg4 arg5 harg5 arg6 harg6 arg7 harg7 arg8 harg8 x0 x1 x2 x3 3 1 a l _ m rfl hl _ (rows_apply _ a l).2.1)
      (fun a l m hl => head_apply c i arg2 harg2 arg3 harg3 arg4 harg4 arg5 harg5 arg6 harg6 arg7 harg7 arg8 harg8 x0 x1 x2 x3 3 2 a l _ m rfl hl _ (rows_apply _ a l).2.2) a l).trans ?_
    refine congr (congr (congrArg (outv i x0 x1 x2 x3) (Fin.ext ?_)) (Fin.ext ?_)) (Fin.ext ?_)
    · simp [Rect.emb, Rect.unit]
    · simp [Rect.emb, Rect.unit]
    · simp [Rect.emb, Rect.unit]
  · obtain ⟨a, l, rfl⟩ := hx x
    refine (slab_out i x0 x1 x2 x3 4 _ _ (fun a l m hl => head_apply c i arg2 harg2 arg3 harg3 arg4 harg4 arg5 harg5 arg6 harg6 arg7 harg7 arg8 harg8 x0 x1 x2 x3 2 2 a l _ m rfl hl _ (rows_apply _ a l).2.2)
      (fun a l m hl => head_apply c i arg2 harg2 arg3 harg3 arg4 harg4 arg5 harg5 arg6 harg6 arg7 harg7 arg8 harg8 x0 x1 x2 x3 3 0 a l _ m rfl hl _ ((rows_apply _ a l).1.trans (congrArg (fun k => k0_pay170 (F := Ideal) _ (ix2 k l)) (Fin.ext (by show a.val = 256 * 0 + a.val; omega))))) a l).trans ?_
    refine congr (congr (congrArg (outv i x0 x1 x2 x3) (Fin.ext ?_)) (Fin.ext ?_)) (Fin.ext ?_)
    · simp [Rect.emb, Rect.unit]
    · simp [Rect.emb, Rect.unit]
    · simp [Rect.emb, Rect.unit]
  · obtain ⟨a, l, rfl⟩ := hx x
    refine (slab_out i x0 x1 x2 x3 3 _ _ (fun a l m hl => head_apply c i arg2 harg2 arg3 harg3 arg4 harg4 arg5 harg5 arg6 harg6 arg7 harg7 arg8 harg8 x0 x1 x2 x3 2 0 a l _ m rfl hl _ ((rows_apply _ a l).1.trans (congrArg (fun k => k0_pay170 (F := Ideal) _ (ix2 k l)) (Fin.ext (by show a.val = 256 * 0 + a.val; omega)))))
      (fun a l m hl => head_apply c i arg2 harg2 arg3 harg3 arg4 harg4 arg5 harg5 arg6 harg6 arg7 harg7 arg8 harg8 x0 x1 x2 x3 2 1 a l _ m rfl hl _ (rows_apply _ a l).2.1) a l).trans ?_
    refine congr (congr (congrArg (outv i x0 x1 x2 x3) (Fin.ext ?_)) (Fin.ext ?_)) (Fin.ext ?_)
    · simp [Rect.emb, Rect.unit]
    · simp [Rect.emb, Rect.unit]
    · simp [Rect.emb, Rect.unit]
  · obtain ⟨a, l, rfl⟩ := hx x
    refine (slab_out i x0 x1 x2 x3 2 _ _ (fun a l m hl => head_apply c i arg2 harg2 arg3 harg3 arg4 harg4 arg5 harg5 arg6 harg6 arg7 harg7 arg8 harg8 x0 x1 x2 x3 1 1 a l _ m rfl hl _ (rows_apply _ a l).2.1)
      (fun a l m hl => head_apply c i arg2 harg2 arg3 harg3 arg4 harg4 arg5 harg5 arg6 harg6 arg7 harg7 arg8 harg8 x0 x1 x2 x3 1 2 a l _ m rfl hl _ (rows_apply _ a l).2.2) a l).trans ?_
    refine congr (congr (congrArg (outv i x0 x1 x2 x3) (Fin.ext ?_)) (Fin.ext ?_)) (Fin.ext ?_)
    · simp [Rect.emb, Rect.unit]
    · simp [Rect.emb, Rect.unit]
    · simp [Rect.emb, Rect.unit]
  · obtain ⟨a, l, rfl⟩ := hx x
    refine (slab_out i x0 x1 x2 x3 1 _ _ (fun a l m hl => head_apply c i arg2 harg2 arg3 harg3 arg4 harg4 arg5 harg5 arg6 harg6 arg7 harg7 arg8 harg8 x0 x1 x2 x3 0 2 a l _ m rfl hl _ (rows_apply _ a l).2.2)
      (fun a l m hl => head_apply c i arg2 harg2 arg3 harg3 arg4 harg4 arg5 harg5 arg6 harg6 arg7 harg7 arg8 harg8 x0 x1 x2 x3 1 0 a l _ m rfl hl _ ((rows_apply _ a l).1.trans (congrArg (fun k => k0_pay170 (F := Ideal) _ (ix2 k l)) (Fin.ext (by show a.val = 256 * 0 + a.val; omega))))) a l).trans ?_
    refine congr (congr (congrArg (outv i x0 x1 x2 x3) (Fin.ext ?_)) (Fin.ext ?_)) (Fin.ext ?_)
    · simp [Rect.emb, Rect.unit]
    · simp [Rect.emb, Rect.unit]
    · simp [Rect.emb, Rect.unit]
  · obtain ⟨a, l, rfl⟩ := hx x
    refine (slab_out i x0 x1 x2 x3 0 _ _ (fun a l m hl => head_apply c i arg2 harg2 arg3 harg3 arg4 harg4 arg5 harg5 arg6 harg6 arg7 harg7 arg8 harg8 x0 x1 x2 x3 0 0 a l _ m rfl hl _ ((rows_apply _ a l).1.trans (congrArg (fun k => k0_pay170 (F := Ideal) _ (ix2 k l)) (Fin.ext (by show a.val = 256 * 0 + a.val; omega)))))
      (fun a l m hl => head_apply c i arg2 harg2 arg3 harg3 arg4 harg4 arg5 harg5 arg6 harg6 arg7 harg7 arg8 harg8 x0 x1 x2 x3 0 1 a l _ m rfl hl _ (rows_apply _ a l).2.1) a l).trans ?_
    refine congr (congr (congrArg (outv i x0 x1 x2 x3) (Fin.ext ?_)) (Fin.ext ?_)) (Fin.ext ?_)
    · simp [Rect.emb, Rect.unit]
    · simp [Rect.emb, Rect.unit]
    · simp [Rect.emb, Rect.unit]
end run

end Cert.KernelIdeal.Att
-- ==== Proof.Blocks.lean ====
/- The kernel's result array from the arrays it is launched on: every block it writes, read at its
   row and channel. -/
module

public import proofs.«01_k».proof.Proof.Out
public import Idealize.ShloMosaic.Lib.Pipeline.ValueKit

@[expose] public section

set_option maxRecDepth 16384

noncomputable section
namespace Cert.KernelIdeal.Att
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The blocks' indices at every grid point. -/
theorem idx : ∀ t : Fin cfg0.N, win0_0.index t = ![0, 0] ∧
    win0_1.index t = ![(grid0.coords t 0).val, (grid0.coords t 1).val, 0] ∧
    win0_2.index t = ![(grid0.coords t 0).val, 0, 0, 0] ∧
    win0_3.index t = ![(grid0.coords t 0).val, 0, 0, 0] ∧
    win0_4.index t = ![(grid0.coords t 0).val, (grid0.coords t 1).val, 0] := by
  decide +kernel

/-- The table's block is the table. -/
theorem rd0 (c : Dev nD) (X : Buf (Elt Ideal) ((c : Thread nD τ).loc (Pipeline.arrRef spec0 0))) (t : Fin cfg0.N) (a : Fin 8) (x : Fin 256) :
    ((cfg0.win 0).blk t).view.read (Elt Ideal) X (ix2 a x) = X (ix2 a x) := by
  rw [View.read_apply]
  refine congrArg X (funext fun d => Fin.ext ?_)
  refine (Pipeline.Window.rect_emb_val win0_0 t (ix2 a x) d).trans ?_
  rw [(idx t).1]
  fin_cases d
  · exact Nat.zero_add _
  · exact Nat.zero_add _

theorem rd1 (c : Dev nD) (X : Buf (Elt Ideal) ((c : Thread nD τ).loc (Pipeline.arrRef spec0 1))) (t : Fin cfg0.N) (b : Fin 4) (ti : Fin 33) (hb : (grid0.coords t 0).val = b.val) (hi : (grid0.coords t 1).val = ti.val)
    (a : Fin 256) (x : Fin 3072) :
    ((cfg0.win 1).blk t).view.read (Elt Ideal) X (ix3 0 a x) = X (ix3 b ⟨256 * ti.val + a.val, by omega⟩ x) := by
  rw [View.read_apply]
  refine congrArg X (funext fun d => Fin.ext ?_)
  refine (Pipeline.Window.rect_emb_val win0_1 t (ix3 0 a x) d).trans ?_
  rw [(idx t).2.1]
  fin_cases d
  · show (grid0.coords t 0).val * 1 + 0 = b.val
    omega
  · show (grid0.coords t 1).val * 256 + a.val = 256 * ti.val + a.val
    omega
  · exact Nat.zero_add _

theorem rd2 (c : Dev nD) (X : Buf (Elt Ideal) ((c : Thread nD τ).loc (Pipeline.arrRef spec0 2))) (t : Fin cfg0.N) (b : Fin 4) (hb : (grid0.coords t 0).val = b.val)
    (a : Fin 33) (x : Fin 1024) (y : Fin 256) :
    ((cfg0.win 2).blk t).view.read (Elt Ideal) X (ix4 0 a x y) = X (ix4 b a x y) := by
  rw [View.read_apply]
  refine congrArg X (funext fun d => Fin.ext ?_)
  refine (Pipeline.Window.rect_emb_val win0_2 t (ix4 0 a x y) d).trans ?_
  rw [(idx t).2.2.1]
  fin_cases d
  · show (grid0.coords t 0).val * 1 + 0 = b.val
    omega
  · exact Nat.zero_add _
  · exact Nat.zero_add _
  · exact Nat.zero_add _

theorem rd3 (c : Dev nD) (X : Buf (Elt Ideal) ((c : Thread nD τ).loc (Pipeline.arrRef spec0 3))) (t : Fin cfg0.N) (b : Fin 4) (hb : (grid0.coords t 0).val = b.val)
    (a : Fin 4) (x : Fin 8448) (y : Fin 128) :
    ((cfg0.win 3).blk t).view.read (Elt Ideal) X (ix4 0 a x y) = X (ix4 b a x y) := by
  rw [View.read_apply]
  refine congrArg X (funext fun d => Fin.ext ?_)
  refine (Pipeline.Window.rect_emb_val win0_3 t (ix4 0 a x y) d).trans ?_
  rw [(idx t).2.2.2.1]
  fin_cases d
  · show (grid0.coords t 0).val * 1 + 0 = b.val
    omega
  · exact Nat.zero_add _
  · show 0 * 8448 + x.val = x.val
    omega
  · exact Nat.zero_add _

theorem rd4 (c : Dev nD) (X : Buf (Elt Ideal) ((c : Thread nD τ).loc (Pipeline.arrRef spec0 4))) (t : Fin cfg0.N) (b : Fin 4) (ti : Fin 33) (hb : (grid0.coords t 0).val = b.val) (hi : (grid0.coords t 1).val = ti.val)
    (a : Fin 256) (x : Fin 768) (R : Fin 8448) (hR : R.val = 256 * ti.val + a.val) :
    ((cfg0.win 4).blk t).view.read (Elt Ideal) X (ix3 0 a x) = X (ix3 b R x) := by
  rw [View.read_apply]
  refine congrArg X (funext fun d => Fin.ext ?_)
  refine (Pipeline.Window.rect_emb_val win0_4 t (ix3 0 a x) d).trans ?_
  rw [(idx t).2.2.2.2]
  fin_cases d
  · show (grid0.coords t 0).val * 1 + 0 = b.val
    omega
  · show (grid0.coords t 1).val * 256 + a.val = R.val
    omega
  · exact Nat.zero_add _

/-- A tile of 256 keys' share of a query's sum: the query is row `R` of head `n` in example `b`. -/
def wsum (sp : S8x256.Idx → EReal) (q : S4x8448x3072.Idx → EReal) (k : S4x33x1024x256.Idx → EReal) (v : S4x4x8448x128.Idx → EReal)
    (b : Fin 4) (R : Fin 8448) (n : Fin 12) (t : Fin 33) (l : Fin 128) : EReal :=
  ∑ x : Fin 256, Ideal.exp2 ((∑ d : Fin 256, q (ix3 b R ⟨256 * n.val + d.val, by omega⟩) *
      k (ix4 b t ⟨256 * (n.val / 3) + d.val, by omega⟩ x)) * sp (ix2 0 x) - sp (ix2 1 x)) *
    v (ix4 b ⟨n.val / 3, by omega⟩ ⟨256 * t.val + x.val, by omega⟩ l)

/-- The whole sum: the context's tile, and every tile of latents for a latent's query. -/
def tot (sp : S8x256.Idx → EReal) (q : S4x8448x3072.Idx → EReal) (k : S4x33x1024x256.Idx → EReal) (v : S4x4x8448x128.Idx → EReal)
    (b : Fin 4) (R : Fin 8448) (n : Fin 12) (l : Fin 128) : EReal :=
  wsum sp q k v b R n 32 l + if R.val < 8192 then ∑ t : Fin 32, wsum sp q k v b R n t.castSucc l else 0

/-- A block's sum is the arrays' sum at the block's place. -/
theorem accum_tot (sp : S8x256.Idx → EReal) (q : S4x8448x3072.Idx → EReal) (k : S4x33x1024x256.Idx → EReal) (v : S4x4x8448x128.Idx → EReal)
    (x0 : Vec Ideal S8x256 .f32) (x1 : Vec Ideal S1x256x3072 .fp8e4m3) (x2 : Vec Ideal S1x33x1024x256 .fp8e4m3) (x3 : Vec Ideal S1x4x8448x128 .bf16)
    (i : grid0.Coords) (b : Fin 4) (ti : Fin 33) (hi : (i 1).val = ti.val)
    (h0 : ∀ a x, x0 (ix2 a x) = sp (ix2 a x))
    (h1 : ∀ (a : Fin 256) (x : Fin 3072), x1 (ix3 0 a x) = q (ix3 b ⟨256 * ti.val + a.val, by omega⟩ x))
    (h2 : ∀ a x y, x2 (ix4 0 a x y) = k (ix4 b a x y)) (h3 : ∀ a x y, x3 (ix4 0 a x y) = v (ix4 b a x y))
    (a : Fin 256) (R : Fin 8448) (hR : R.val = 256 * ti.val + a.val) (n : Fin 12) (l : Fin 128) :
    accum i x0 x1 x2 x3 ⟨n.val / 3, by omega⟩ ⟨256 * (n.val % 3) + a.val, by omega⟩ l = tot sp q k v b R n l := by
  have hp : ∀ t : Fin 33, part x0 x1 x2 x3 ⟨n.val / 3, by omega⟩ t ⟨256 * (n.val % 3) + a.val, by omega⟩ l = wsum sp q k v b R n t l := by
    intro t
    unfold part wsum
    refine Finset.sum_congr rfl fun x _ => ?_
    rw [h0, h0, h3]
    congr 4
    refine Finset.sum_congr rfl fun d _ => ?_
    rw [h1, h2]
    congr 3
    · exact Fin.ext (by show 256 * ti.val + (256 * (n.val % 3) + a.val) % 256 = R.val; omega)
    · exact Fin.ext (by show 768 * (n.val / 3) + 256 * ((256 * (n.val % 3) + a.val) / 256) + d.val = 256 * n.val + d.val; omega)
  unfold accum tot
  rw [hp]
  have hc : ((i 1).val < 32) = (R.val < 8192) := propext (by omega)
  simp only [hc, hp]

/-- The grid's points: example by example, 33 blocks of queries each. -/
theorem pts : ∀ (b : Fin 4) (i : Fin 33), ∃ t : Fin cfg0.N, (grid0.coords t 0).val = b.val ∧ (grid0.coords t 1).val = i.val ∧ (cfg0.win 4).flush t = true := by
  decide +kernel

/-- The kernel's result at a row and channel. -/
theorem result_apply (c : Dev nD) (b : Fin 4) (R : Fin 8448) (ch : Fin 768) :
    (dats m 0 c).arrAt 4 cfg0.N (ix3 b R ch) =
      tot (V m c main_v43) (V m c main_v53) (V m c main_v65) (V m c main_v69) b R ⟨ch.val / 64, by omega⟩ ⟨ch.val % 64, by omega⟩ *
        Ideal.div 1 (tot (V m c main_v43) (V m c main_v53) (V m c main_v65) (V m c main_v69) b R ⟨ch.val / 64, by omega⟩ ⟨ch.val % 64 + 64, by omega⟩) := by
  obtain ⟨t, hb, hi, hf⟩ := pts b ⟨R.val / 256, by omega⟩
  have e := congrFun (Value.blocks4 m c t hf) (ix3 0 ⟨R.val % 256, by omega⟩ ch)
  have e1 := rd4 c ((dats m 0 c).arrAt 4 cfg0.N) t b ⟨R.val / 256, by omega⟩ hb hi ⟨R.val % 256, by omega⟩ ch R (by show R.val = 256 * (R.val / 256) + R.val % 256; omega)
  refine e1.symm.trans (e.trans ?_)
  rw [Value.flushed4_A]
  have e2 := out_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ⟨R.val % 256, by omega⟩ ch
  refine Eq.trans ?_ (e2.trans ?_)
  · rfl
  · have T := accum_tot (V m c main_v43) (V m c main_v53) (V m c main_v65) (V m c main_v69) (iblk m c 0 t) (iblk m c 1 t) (iblk m c 2 t) (iblk m c 3 t)
      (grid0.coords t) b ⟨R.val / 256, by omega⟩ hi (fun a x => rd0 c _ t a x) (fun a x => rd1 c _ t b _ hb hi a x) (fun a x y => rd2 c _ t b hb a x y)
      (fun a x y => rd3 c _ t b hb a x y) ⟨R.val % 256, by omega⟩ R (by show R.val = 256 * (R.val / 256) + R.val % 256; omega) ⟨ch.val / 64, by omega⟩
    unfold outv
    rw [T, T]

end Cert.KernelIdeal.Att
-- ==== Proof.Host.lean ====
/- The arrays the kernel is launched on, read at an index from the arguments. -/
module

public import proofs.«01_k».proof.Proof.Blocks
public import Idealize.ShloMosaic.Lib.Pointwise
public import Idealize.ShloMosaic.Lib.Claim

@[expose] public section

set_option maxRecDepth 16384

noncomputable section
namespace Cert.KernelIdeal.Att
open Cert.KernelIdeal Cert.KernelIdeal.Gen Idealize.ShloMosaic Idealize.ShloMosaic.TcCoe Idealize.SL.Sem
variable (m : (ℓ : Loc nD τ sig) → Buf (Elt Ideal) ℓ) (c : Dev nD)

theorem v_apply (b h : Fin 4) (k : Fin 8448) (l : Fin 128) :
    @Eq EReal (V m c main_v69 (ix4 b h k l)) <| if hl : l.val < 64 then (m ((c : Thread nD τ).loc main_arg2) (ix4 b k h ⟨l.val, hl⟩) : EReal) else (1 : EReal) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

end Cert.KernelIdeal.Att
-- ==== Proof.HostQ.lean ====
/- The arrays the kernel is launched on, read at an index from the arguments. -/
module

public import proofs.«01_k».proof.Proof.Blocks
public import Idealize.ShloMosaic.Lib.Pointwise
public import Idealize.ShloMosaic.Lib.Claim
public import Idealize.ShloMosaic.Lib.StableHlo.RunRead

@[expose] public section

set_option maxRecDepth 16384

noncomputable section
namespace Cert.KernelIdeal.Att
open Cert.KernelIdeal Cert.KernelIdeal.Gen Idealize.ShloMosaic Idealize.ShloMosaic.TcCoe Idealize.SL.Sem
open Idealize.ShloMosaic.StableHlo
variable (m : (ℓ : Loc nD τ sig) → Buf (Elt Ideal) ℓ) (c : Dev nD)

/-- The coarse part of a number: what a round trip through a narrow format stands for. -/
def hi (z : EReal) : EReal := z * Ideal.ofBits .f32 1233125384#32 - (z * Ideal.ofBits .f32 1233125384#32 - z)

/-- The host's operations up to the scale table. -/
abbrev front : List (HloOp τ sig (Elt Ideal)) :=
  List.flatten [hostOps0, hostOps0_1, hostOps0_2, hostOps0_3, hostOps0_4, hostOps0_5, hostOps0_6, hostOps0_7, hostOps0_8.take 35]

/-- What the buffers hold once the scale table is made. -/
def mid : Valuation τ sig (Elt Ideal) := after front fun b => m (c, b)

theorem V_cut (b : Ref sig .tc) : V m c b = after (hostOps0_8.drop 35) (mid m c) b := by
  unfold mid
  rw [← StableHlo.after_append]
  rfl

theorem mid_v11 : mid m c (Proc.devRef .tc main_v11) = V m c main_v11 := by
  rw [V_cut]
  simp only [hostOps0_8, List.drop_succ_cons, List.drop_zero]
  after_reads_simp

theorem mid_v23 : mid m c (Proc.devRef .tc main_v23) = V m c main_v23 := by
  rw [V_cut]
  simp only [hostOps0_8, List.drop_succ_cons, List.drop_zero]
  after_reads_simp

theorem mid_arg0 : mid m c (Proc.devRef .tc main_arg0) = m ((c : Thread nD τ).loc main_arg0) := by
  rw [← V_main_arg0 m c, V_cut]
  simp only [hostOps0_8, List.drop_succ_cons, List.drop_zero]
  after_reads_simp

theorem mid_arg1 : mid m c (Proc.devRef .tc main_arg1) = m ((c : Thread nD τ).loc main_arg1) := by
  rw [← V_main_arg1 m c, V_cut]
  simp only [hostOps0_8, List.drop_succ_cons, List.drop_zero]
  after_reads_simp

theorem q_tail (W : Valuation τ sig (Elt Ideal)) :
    after (hostOps0_8.drop 43) W (Proc.devRef .tc main_v53) =
      Host.convertf (F := Ideal) (φ := .f32) .fp8e4m3 (fun i => shapeCast S4x8448x3072 (concatenate S4x8448x12x256 3
        [⟨S4x8448x12x64, W (Proc.devRef .tc main_v49)⟩, ⟨S4x8448x12x64, W (Proc.devRef .tc main_v49)⟩,
         ⟨S4x8448x12x64, W (Proc.devRef .tc main_v50)⟩, ⟨S4x8448x12x64, W (Proc.devRef .tc main_v50)⟩]
         concatenates_S4x8448x12x64_S4x8448x12x64_S4x8448x12x64_S4x8448x12x64_S4x8448x12x256_d3)
          shapeCasts_S4x8448x12x256_S4x8448x3072 i : S4x8448x3072.Idx → EReal) := by
  simp only [hostOps0_8, List.drop_succ_cons, List.drop_zero]
  after_reads_simp
  rfl

theorem ix4_congr {n0 n1 n2 n3 : ℕ} (a : Fin n0) (b : Fin n1) {c c' : Fin n2} {d d' : Fin n3} (hc : c.val = c'.val) (hd : d.val = d'.val) :
    ix4 a b c d = ix4 a b c' d' := by
  rw [Fin.ext hc, Fin.ext hd]

theorem q_tail_apply (A B : S4x8448x12x64.Idx → EReal) (b : Fin 4) (R : Fin 8448) (n : Fin 12) (d : Fin 256) :
    @Eq EReal (Host.convertf (F := Ideal) (φ := .f32) .fp8e4m3 (fun i => shapeCast S4x8448x3072 (concatenate S4x8448x12x256 3
        [⟨S4x8448x12x64, A⟩, ⟨S4x8448x12x64, A⟩, ⟨S4x8448x12x64, B⟩, ⟨S4x8448x12x64, B⟩]
         concatenates_S4x8448x12x64_S4x8448x12x64_S4x8448x12x64_S4x8448x12x64_S4x8448x12x256_d3)
          shapeCasts_S4x8448x12x256_S4x8448x3072 i : S4x8448x3072.Idx → EReal) (ix3 b R ⟨256 * n.val + d.val, by omega⟩))
      (if d.val < 128 then A (ix4 b R n ⟨d.val % 64, by omega⟩) else B (ix4 b R n ⟨d.val % 64, by omega⟩)) := by
  by_cases hd : d.val < 128
  · rw [if_pos hd]
    pointwise
    split_ifs
    all_goals first
      | (exfalso; omega)
      | (refine congrArg A (ix4_congr _ _ ?_ ?_) <;> dsimp only <;> omega)
      | (refine congrArg B (ix4_congr _ _ ?_ ?_) <;> dsimp only <;> omega)
  · rw [if_neg hd]
    pointwise
    split_ifs
    all_goals first
      | (exfalso; omega)
      | (refine congrArg A (ix4_congr _ _ ?_ ?_) <;> dsimp only <;> omega)
      | (refine congrArg B (ix4_congr _ _ ?_ ?_) <;> dsimp only <;> omega)

theorem q_hi (W : Valuation τ sig (Elt Ideal)) (Q : S4x8448x12x64.Idx → EReal) (S : S_.Idx → EReal)
    (hQ : W (Proc.devRef .tc main_arg0) = Q) (hS : W (Proc.devRef .tc main_v11) = S)
    (b : Fin 4) (R : Fin 8448) (n : Fin 12) (d : Fin 64) :
    @Eq EReal (after ((hostOps0_8.drop 35).take 8) W (Proc.devRef .tc main_v49) (ix4 b R n d)) (hi (Q (ix4 b R n d) * S ix0)) := by
  simp only [hostOps0_8, List.drop_succ_cons, List.drop_zero, List.take_succ_cons, List.take_zero]
  after_reads_simp
  rw [hQ, hS]
  unfold hi
  pointwise

theorem q_lo (W : Valuation τ sig (Elt Ideal)) (Q : S4x8448x12x64.Idx → EReal) (S : S_.Idx → EReal)
    (hQ : W (Proc.devRef .tc main_arg0) = Q) (hS : W (Proc.devRef .tc main_v11) = S)
    (b : Fin 4) (R : Fin 8448) (n : Fin 12) (d : Fin 64) :
    @Eq EReal (after ((hostOps0_8.drop 35).take 8) W (Proc.devRef .tc main_v50) (ix4 b R n d)) (Q (ix4 b R n d) * S ix0 - hi (Q (ix4 b R n d) * S ix0)) := by
  simp only [hostOps0_8, List.drop_succ_cons, List.drop_zero, List.take_succ_cons, List.take_zero]
  after_reads_simp
  rw [hQ, hS]
  unfold hi
  pointwise

/-- A packed query: its coarse part twice, then what is left twice. -/
theorem q_apply (b : Fin 4) (R : Fin 8448) (n : Fin 12) (d : Fin 256) (Q : S4x8448x12x64.Idx → EReal) (S : S_.Idx → EReal)
    (hQ : m ((c : Thread nD τ).loc main_arg0) = Q) (hS : V m c main_v11 = S) :
    @Eq EReal (V m c main_v53 (ix3 b R ⟨256 * n.val + d.val, by omega⟩))
      (if d.val < 128 then hi (Q (ix4 b R n ⟨d.val % 64, by omega⟩) * S ix0)
        else Q (ix4 b R n ⟨d.val % 64, by omega⟩) * S ix0 - hi (Q (ix4 b R n ⟨d.val % 64, by omega⟩) * S ix0)) := by
  have e : V m c main_v53 = after (hostOps0_8.drop 43) (after ((hostOps0_8.drop 35).take 8) (mid m c)) (Proc.devRef .tc main_v53) := by
    rw [V_cut, ← StableHlo.after_append]
    rfl
  rw [e, q_tail]
  refine (q_tail_apply _ _ b R n d).trans ?_
  rw [q_hi _ Q S ((mid_arg0 m c).trans hQ) ((mid_v11 m c).trans hS), q_lo _ Q S ((mid_arg0 m c).trans hQ) ((mid_v11 m c).trans hS)]

end Cert.KernelIdeal.Att
-- ==== Proof.HostK.lean ====
/- The arrays the kernel is launched on, read at an index from the arguments. -/
module

public import proofs.«01_k».proof.Proof.HostQ
public import Idealize.ShloMosaic.Lib.Pointwise
public import Idealize.ShloMosaic.Lib.Claim
public import Idealize.ShloMosaic.Lib.StableHlo.RunRead

@[expose] public section

set_option maxRecDepth 16384

noncomputable section
namespace Cert.KernelIdeal.Att
open Cert.KernelIdeal Cert.KernelIdeal.Gen Idealize.ShloMosaic Idealize.ShloMosaic.TcCoe Idealize.SL.Sem
open Idealize.ShloMosaic.StableHlo
variable (m : (ℓ : Loc nD τ sig) → Buf (Elt Ideal) ℓ) (c : Dev nD)

theorem k_tail (W : Valuation τ sig (Elt Ideal)) :
    after (hostOps0_8.drop 56) W (Proc.devRef .tc main_v65) =
      Host.convertf (F := Ideal) (φ := .f32) .fp8e4m3 (fun i => shapeCast S4x33x1024x256 (concatenate S4x33x4x256x256 3
        [⟨S4x33x4x64x256, W (Proc.devRef .tc main_v61)⟩, ⟨S4x33x4x64x256, W (Proc.devRef .tc main_v62)⟩,
         ⟨S4x33x4x64x256, W (Proc.devRef .tc main_v61)⟩, ⟨S4x33x4x64x256, W (Proc.devRef .tc main_v62)⟩]
         concatenates_S4x33x4x64x256_S4x33x4x64x256_S4x33x4x64x256_S4x33x4x64x256_S4x33x4x256x256_d3)
          shapeCasts_S4x33x4x256x256_S4x33x1024x256 i : S4x33x1024x256.Idx → EReal) := by
  simp only [hostOps0_8, List.drop_succ_cons, List.drop_zero]
  after_reads_simp
  rfl

theorem ix5_congr {n0 n1 n2 n3 n4 : ℕ} (a : Fin n0) (b : Fin n1) {c c' : Fin n2} {d d' : Fin n3} (x : Fin n4) (hc : c.val = c'.val) (hd : d.val = d'.val) :
    ix5 a b c d x = ix5 a b c' d' x := by
  rw [Fin.ext hc, Fin.ext hd]

theorem k_tail_apply (A B : S4x33x4x64x256.Idx → EReal) (b : Fin 4) (t : Fin 33) (h : Fin 4) (d : Fin 256) (x : Fin 256) :
    @Eq EReal (Host.convertf (F := Ideal) (φ := .f32) .fp8e4m3 (fun i => shapeCast S4x33x1024x256 (concatenate S4x33x4x256x256 3
        [⟨S4x33x4x64x256, A⟩, ⟨S4x33x4x64x256, B⟩, ⟨S4x33x4x64x256, A⟩, ⟨S4x33x4x64x256, B⟩]
         concatenates_S4x33x4x64x256_S4x33x4x64x256_S4x33x4x64x256_S4x33x4x64x256_S4x33x4x256x256_d3)
          shapeCasts_S4x33x4x256x256_S4x33x1024x256 i : S4x33x1024x256.Idx → EReal) (ix4 b t ⟨256 * h.val + d.val, by omega⟩ x))
      (if d.val % 128 < 64 then A (ix5 b t h ⟨d.val % 64, by omega⟩ x) else B (ix5 b t h ⟨d.val % 64, by omega⟩ x)) := by
  by_cases hd : d.val % 128 < 64
  · rw [if_pos hd]
    pointwise
    split_ifs
    all_goals first
      | (exfalso; omega)
      | (refine congrArg A (ix5_congr _ _ _ ?_ ?_) <;> dsimp only <;> omega)
      | (refine congrArg B (ix5_congr _ _ _ ?_ ?_) <;> dsimp only <;> omega)
  · rw [if_neg hd]
    pointwise
    split_ifs
    all_goals first
      | (exfalso; omega)
      | (refine congrArg A (ix5_congr _ _ _ ?_ ?_) <;> dsimp only <;> omega)
      | (refine congrArg B (ix5_congr _ _ _ ?_ ?_) <;> dsimp only <;> omega)

theorem k_hi (W : Valuation τ sig (Elt Ideal)) (Q : S4x8448x4x64.Idx → EReal) (S : S_.Idx → EReal)
    (hQ : W (Proc.devRef .tc main_arg1) = Q) (hS : W (Proc.devRef .tc main_v23) = S)
    (b : Fin 4) (t : Fin 33) (h : Fin 4) (d : Fin 64) (x : Fin 256) :
    @Eq EReal (after ((hostOps0_8.drop 35).take 21) W (Proc.devRef .tc main_v61) (ix5 b t h d x)) (hi (Q (ix4 b ⟨256 * t.val + x.val, by omega⟩ h d) * S ix0)) := by
  simp only [hostOps0_8, List.drop_succ_cons, List.drop_zero, List.take_succ_cons, List.take_zero]
  after_reads_simp
  rw [hQ, hS]
  unfold hi
  have e : (⟨t.val * 256 + x.val, by omega⟩ : Fin 8448) = ⟨256 * t.val + x.val, by omega⟩ := Fin.ext (by dsimp only; omega)
  pointwise
  rw [e]

theorem k_lo (W : Valuation τ sig (Elt Ideal)) (Q : S4x8448x4x64.Idx → EReal) (S : S_.Idx → EReal)
    (hQ : W (Proc.devRef .tc main_arg1) = Q) (hS : W (Proc.devRef .tc main_v23) = S)
    (b : Fin 4) (t : Fin 33) (h : Fin 4) (d : Fin 64) (x : Fin 256) :
    @Eq EReal (after ((hostOps0_8.drop 35).take 21) W (Proc.devRef .tc main_v62) (ix5 b t h d x)) (Q (ix4 b ⟨256 * t.val + x.val, by omega⟩ h d) * S ix0 - hi (Q (ix4 b ⟨256 * t.val + x.val, by omega⟩ h d) * S ix0)) := by
  simp only [hostOps0_8, List.drop_succ_cons, List.drop_zero, List.take_succ_cons, List.take_zero]
  after_reads_simp
  rw [hQ, hS]
  unfold hi
  have e : (⟨t.val * 256 + x.val, by omega⟩ : Fin 8448) = ⟨256 * t.val + x.val, by omega⟩ := Fin.ext (by dsimp only; omega)
  pointwise
  rw [e]

/-- A packed key: its coarse part and what is left, twice over. -/
theorem k_apply (b : Fin 4) (t : Fin 33) (h : Fin 4) (d : Fin 256) (x : Fin 256) (Q : S4x8448x4x64.Idx → EReal) (S : S_.Idx → EReal)
    (hQ : m ((c : Thread nD τ).loc main_arg1) = Q) (hS : V m c main_v23 = S) :
    @Eq EReal (V m c main_v65 (ix4 b t ⟨256 * h.val + d.val, by omega⟩ x))
      (if d.val % 128 < 64 then hi (Q (ix4 b ⟨256 * t.val + x.val, by omega⟩ h ⟨d.val % 64, by omega⟩) * S ix0)
        else Q (ix4 b ⟨256 * t.val + x.val, by omega⟩ h ⟨d.val % 64, by omega⟩) * S ix0 -
          hi (Q (ix4 b ⟨256 * t.val + x.val, by omega⟩ h ⟨d.val % 64, by omega⟩) * S ix0)) := by
  have e : V m c main_v65 = after (hostOps0_8.drop 56) (after ((hostOps0_8.drop 35).take 21) (mid m c)) (Proc.devRef .tc main_v65) := by
    rw [V_cut, ← StableHlo.after_append]
    rfl
  rw [e, k_tail]
  refine (k_tail_apply _ _ b t h d x).trans ?_
  rw [k_hi _ Q S ((mid_arg1 m c).trans hQ) ((mid_v23 m c).trans hS), k_lo _ Q S ((mid_arg1 m c).trans hQ) ((mid_v23 m c).trans hS)]

end Cert.KernelIdeal.Att
-- ==== Proof.HostS.lean ====
/- The arrays the kernel is launched on, read at an index from the arguments. -/
module

public import proofs.«01_k».proof.Proof.HostK
public import Idealize.ShloMosaic.Lib.Pointwise
public import Idealize.ShloMosaic.Lib.Claim
public import Idealize.ShloMosaic.Lib.StableHlo.RunRead
public import Idealize.ShloMosaic.Lib.Routing.OpsPair
public import Idealize.ShloMosaic.Lib.Routing.OpsSet

@[expose] public section

set_option maxRecDepth 16384

noncomputable section
namespace Cert.KernelIdeal.Att
open Cert.KernelIdeal Cert.KernelIdeal.Gen Idealize.ShloMosaic Idealize.ShloMosaic.TcCoe Idealize.SL.Sem
open Idealize.ShloMosaic.StableHlo
variable (m : (ℓ : Loc nD τ sig) → Buf (Elt Ideal) ℓ) (c : Dev nD)

/-- The largest magnitude among 64 gains. -/
def amax (g : S64.Idx → EReal) : EReal :=
  Finset.fold max (Ideal.ofBits .f32 4286578688#32) (fun k : Fin 64 => max (g (ix1 k)) (-g (ix1 k))) Finset.univ

/-- A power of two near the reciprocal of `g`, as the host works it out. -/
def pow2 (g : EReal) : EReal :=
  Ideal.exp (Ideal.ofBits .f32 1060205080#32 * -Ideal.liftRound Ideal.roundHalfEven
    (Ideal.log (if 0 < g then g else 1) * Ideal.ofBits .f32 1069066811#32))

theorem v11_eq : @Eq EReal (V m c main_v11 ix0) (pow2 (amax (m ((c : Thread nD τ).loc main_arg3)))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  simp -implicitDefEqProofs only [StableHlo.TRef.toBuf, StableHlo.TRef.ofBuf, cast_cast, cast_eq]
  unfold pow2 amax
  simp only [id_eq]
  pointwise
  rfl

theorem v23_eq : @Eq EReal (V m c main_v23 ix0) (pow2 (amax (m ((c : Thread nD τ).loc main_arg4)))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  simp -implicitDefEqProofs only [StableHlo.TRef.toBuf, StableHlo.TRef.ofBuf, cast_cast, cast_eq]
  unfold pow2 amax
  simp only [id_eq]
  pointwise
  rfl

/-- An eighth over the natural logarithm of two, as the host works it out. -/
def l2e : EReal := Ideal.ofBits .f32 1040187392#32 * Ideal.div 1 (Ideal.log (Ideal.ofBits .f32 1073741824#32))

theorem v26_eq : @Eq EReal (V m c main_v26 ix0) l2e := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  unfold l2e
  pointwise

theorem v33_eq : @Eq EReal (V m c main_v33 ix0) (Ideal.ofBits .f32 1115684864#32 * amax (m ((c : Thread nD τ).loc main_arg3))
    * amax (m ((c : Thread nD τ).loc main_arg4)) * l2e) := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  unfold l2e amax
  pointwise
  rfl

theorem v36_eq (A B C : EReal) (h26 : @Eq EReal (V m c main_v26 ix0) A) (h11 : @Eq EReal (V m c main_v11 ix0) B)
    (h23 : @Eq EReal (V m c main_v23 ix0) C) : @Eq EReal (V m c main_v36 ix0) (Ideal.div A (B * C)) := by
  subst h26 h11 h23
  simp only [V, hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- Row `r` of the table is where the update's words land. -/
theorem lands_row (idx : IVec S1 32) (r : Fin 8) (hidx : (idx (ix1 0)).toInt = (r.val : Int)) (x' : Fin 256) (e : Fin 8) (x : Fin 256) :
    scatter_S8x256_S1_S256_0_0_0_0.resultIdx? (ix1 x') idx = some (ix2 e x) ↔ e = r ∧ x' = x := by
  have hm : (0 : Fin 2) ∈ scatter_S8x256_S1_S256_0_0_0_0.scatterDimsToOperandDims := List.mem_singleton.2 rfl
  have hwin0 : scatter_S8x256_S1_S256_0_0_0_0.window (ix1 x') 0 = 0 := rfl
  have hwin1 : scatter_S8x256_S1_S256_0_0_0_0.window (ix1 x') 1 = x'.val := rfl
  have hstart1 : scatter_S8x256_S1_S256_0_0_0_0.start (ix1 x') idx 1 = 0 := rfl
  have hstart0 : scatter_S8x256_S1_S256_0_0_0_0.start (ix1 x') idx 0 = (r.val : Int) := by
    unfold ScatterDims.start
    rw [dif_pos hm]
    have hsi : scatter_S8x256_S1_S256_0_0_0_0.siIdx (ix1 x') ⟨scatter_S8x256_S1_S256_0_0_0_0.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  refine (Routing.resultIdx?_ix2 (R := 8) (C := 256) scatter_S8x256_S1_S256_0_0_0_0 (ix1 x') idx e x).trans ?_
  rw [Fin.ext_iff, Fin.ext_iff, hstart0, hwin0, hstart1, hwin1]
  omega

/-- Setting row `r` of the table. -/
theorem scatter_row (T : S8x256.Idx → EReal) (idx : IVec S1 32) (upd : S256.Idx → EReal) (r : Fin 8)
    (hidx : (idx (ix1 0)).toInt = (r.val : Int)) (e : Fin 8) (x : Fin 256) :
    Host.scatter scatter_S8x256_S1_S256_0_0_0_0 (fun _ b => b) T idx upd (ix2 e x) = if e = r then upd (ix1 x) else T (ix2 e x) := by
  by_cases he : e = r
  · rw [if_pos he]
    refine Routing.scatter_set_hit _ _ _ _ _ _ (fun k hk => ?_) (ix1 x) ((lands_row idx r hidx x e x).2 ⟨he, rfl⟩)
    rw [← ((lands_row idx r hidx (k 0) e x).1 (by rw [← hk]; congr 1; funext a; match a with | ⟨0, _⟩ => rfl)).2]
    congr 1; funext a; match a with | ⟨0, _⟩ => rfl
  · rw [if_neg he]
    refine Routing.scatter_set_miss _ _ _ _ _ fun k hk => he ?_
    exact ((lands_row idx r hidx (k 0) e x).1 (by rw [← hk]; congr 1; funext a; match a with | ⟨0, _⟩ => rfl)).1

theorem v43_cut (W : Valuation τ sig (Elt Ideal)) (A : S8x256.Idx → EReal) (B C : S_.Idx → EReal)
   (h1 : W (Proc.devRef .tc main_v34) = A) (h2 : W (Proc.devRef .tc main_v36) = B) (h3 : W (Proc.devRef .tc main_v33) = C) (x : Fin 256) :
   @Eq EReal (after ((hostOps0_8.drop 25).take 10) W (Proc.devRef .tc main_v43) (ix2 0 x)) (B ix0)
   ∧ @Eq EReal (after ((hostOps0_8.drop 25).take 10) W (Proc.devRef .tc main_v43) (ix2 1 x)) (Ideal.ofBits .f32 1056964608#32 * C ix0) := by
  simp only [hostOps0_8, List.drop_succ_cons, List.drop_zero, List.take_succ_cons, List.take_zero]
  after_reads_simp
  rw [h1, h2, h3]
  constructor
  · refine (scatter_row _ _ _ 1 (by pointwise; rfl) 0 x).trans ((if_neg (by decide)).trans ((scatter_row _ _ _ 0 (by pointwise; rfl) 0 x).trans ((if_pos rfl).trans ?_)))
    pointwise
  · refine (scatter_row _ _ _ 1 (by pointwise; rfl) 1 x).trans ((if_pos rfl).trans ?_)
    pointwise

/-- What the buffers hold just before the table is made. -/
def pre : Valuation τ sig (Elt Ideal) := after (List.flatten [hostOps0, hostOps0_1, hostOps0_2, hostOps0_3, hostOps0_4, hostOps0_5, hostOps0_6,
  hostOps0_7, hostOps0_8.take 25]) fun b => m (c, b)

theorem V_pre (b : Ref sig .tc) : V m c b = after (hostOps0_8.drop 25) (pre m c) b := by
  unfold pre
  rw [← StableHlo.after_append]
  rfl

theorem pre_v33 : pre m c (Proc.devRef .tc main_v33) = V m c main_v33 := by
  rw [V_pre]
  simp only [hostOps0_8, List.drop_succ_cons, List.drop_zero]
  after_reads_simp

theorem pre_v36 : pre m c (Proc.devRef .tc main_v36) = V m c main_v36 := by
  rw [V_pre]
  simp only [hostOps0_8, List.drop_succ_cons, List.drop_zero]
  after_reads_simp

theorem v43_tail (W : Valuation τ sig (Elt Ideal)) :
    after (hostOps0_8.drop 35) W (Proc.devRef .tc main_v43) = W (Proc.devRef .tc main_v43) := by
  simp only [hostOps0_8, List.drop_succ_cons, List.drop_zero]
  after_reads_simp

/-- Row 0 of the table holds the scale and row 1 half the bound on the scores. -/
theorem s_apply (x : Fin 256) :
    @Eq EReal (V m c main_v43 (ix2 0 x)) (Ideal.div l2e (pow2 (amax (m ((c : Thread nD τ).loc main_arg3))) * pow2 (amax (m ((c : Thread nD τ).loc main_arg4)))))
    ∧ @Eq EReal (V m c main_v43 (ix2 1 x)) (Ideal.ofBits .f32 1056964608#32 * (Ideal.ofBits .f32 1115684864#32 * amax (m ((c : Thread nD τ).loc main_arg3))
    * amax (m ((c : Thread nD τ).loc main_arg4)) * l2e)) := by
  have e : V m c main_v43 = after ((hostOps0_8.drop 25).take 10) (pre m c) (Proc.devRef .tc main_v43) := by
    rw [← v43_tail (after ((hostOps0_8.drop 25).take 10) (pre m c)), V_pre, ← StableHlo.after_append]
    rfl
  obtain ⟨h0, h1⟩ := v43_cut (pre m c) _ _ _ rfl (pre_v36 m c) (pre_v33 m c) x
  rw [e]
  refine ⟨h0.trans (v36_eq m c _ _ _ (v26_eq m c) (v11_eq m c) (v23_eq m c)), h1.trans ?_⟩
  rw [v33_eq m c]

end Cert.KernelIdeal.Att
-- ==== Proof.Soft.lean ====
/- Softmax averages over the extended reals: real scores, any values. -/
module

public import Idealize.ShloMosaic.Lib.Pointwise

@[expose] public section

noncomputable section
namespace Cert.Soft
open Idealize.ShloMosaic
open scoped BigOperators

/-- Multiplying by a nonnegative real distributes over a sum of any extended reals. -/
theorem mul_sum {N : ℕ} (r : ℝ) (hr : 0 ≤ r) (f : Fin N → EReal) : (r : EReal) * ∑ k, f k = ∑ k, (r : EReal) * f k := by
  induction N with
  | zero => simp
  | succ n ih =>
    rw [Fin.sum_univ_succ, Fin.sum_univ_succ, EReal.left_distrib_of_nonneg_of_ne_top (by exact_mod_cast hr) (EReal.coe_ne_top r), ih]

/-- A sum of reals is a real. -/
theorem coe_sum {N : ℕ} (f : Fin N → ℝ) : ∑ k, (f k : EReal) = ((∑ k, f k : ℝ) : EReal) := by
  induction N with
  | zero => simp
  | succ n ih => rw [Fin.sum_univ_succ, Fin.sum_univ_succ, ih, EReal.coe_add]

/-- The weight of key `k`. -/
def weight {N : ℕ} (s : Fin N → ℝ) (k : Fin N) : ℝ := Real.exp (s k) / ∑ j, Real.exp (s j)

/-- The softmax average of the values `v` under the scores `s`. -/
def avg {N : ℕ} (s : Fin N → ℝ) (v : Fin N → EReal) : EReal := ∑ k, (weight s k : EReal) * v k

theorem sum_exp_pos {N : ℕ} (hN : 0 < N) (s : Fin N → ℝ) : 0 < ∑ j, Real.exp (s j) :=
  Finset.sum_pos (fun _ _ => Real.exp_pos _) ⟨⟨0, hN⟩, Finset.mem_univ _⟩

/-- Subtracting any number from every score, then exponentiating and dividing by the sum, gives the same average. -/
theorem avg_shift {N : ℕ} (hN : 0 < N) (s : Fin N → ℝ) (v : Fin N → EReal) (M : ℝ) :
    ∑ k, v k * Ideal.div (Ideal.exp ((s k : EReal) - (M : EReal))) (∑ j, Ideal.exp ((s j : EReal) - (M : EReal))) = avg s v := by
  have e : ∀ k, Ideal.exp ((s k : EReal) - (M : EReal)) = ((Real.exp (s k - M) : ℝ) : EReal) := fun k => by
    rw [← EReal.coe_sub, Ideal.exp_coe]
  simp only [e]
  rw [coe_sum]
  refine Finset.sum_congr rfl fun k _ => ?_
  have hpos := sum_exp_pos hN fun j => s j - M
  rw [Ideal.div_coe hpos.ne', ← EReal.coe_mul, mul_comm]
  congr 2
  unfold weight
  simp only [Real.exp_sub, ← Finset.sum_div]
  have := Real.exp_pos M
  have := sum_exp_pos hN s
  field_simp

/-- Powers of two of rescaled, shifted scores, summed against the values and divided at the end by their own sum, give the same average. -/
theorem avg_pow2 {N : ℕ} (hN : 0 < N) (s : Fin N → ℝ) (v : Fin N → EReal) (T : ℝ) :
    (∑ k, Ideal.exp2 ((s k / Real.log 2 - T : ℝ) : EReal) * v k) * Ideal.div 1 (∑ k, Ideal.exp2 ((s k / Real.log 2 - T : ℝ) : EReal) * 1) = avg s v := by
  have h2 : 0 < Real.log 2 := Real.log_pos (by norm_num)
  have e : ∀ k, Ideal.exp2 ((s k / Real.log 2 - T : ℝ) : EReal) = ((Real.exp (s k) * Real.exp (-(T * Real.log 2)) : ℝ) : EReal) := fun k => by
    rw [Ideal.exp2_coe, ← Real.exp_add]
    congr 1
    show (2 : ℝ) ^ (s k / Real.log 2 - T) = _
    rw [Real.rpow_def_of_pos (by norm_num)]
    congr 1
    field_simp
    ring
  simp only [e, mul_one]
  have hc := Real.exp_pos (-(T * Real.log 2))
  rw [coe_sum, ← Finset.sum_mul]
  have hs := sum_exp_pos hN s
  rw [Ideal.div_coe (mul_pos hs hc).ne', one_mul, mul_comm, mul_sum _ (by positivity)]
  refine Finset.sum_congr rfl fun k _ => ?_
  rw [← mul_assoc, ← EReal.coe_mul]
  congr 2
  unfold weight
  field_simp

/-- The largest of at least one real number, found starting from `⊥`, is a real. -/
theorem fold_max_real {N : ℕ} (hN : 0 < N) (f : Fin N → EReal) (hf : ∀ k, ∃ r : ℝ, f k = r) :
    ∃ r : ℝ, Finset.fold max (⊥ : EReal) f Finset.univ = r := by
  have h1 : Finset.fold max (⊥ : EReal) f Finset.univ < ⊤ :=
    (Finset.fold_max_lt _).2 ⟨bot_lt_top, fun k _ => by obtain ⟨r, h⟩ := hf k; rw [h]; exact EReal.coe_lt_top r⟩
  have h2 : ⊥ < Finset.fold max (⊥ : EReal) f Finset.univ :=
    (Finset.lt_fold_max _).2 (Or.inr ⟨⟨0, hN⟩, Finset.mem_univ _, by obtain ⟨r, h⟩ := hf ⟨0, hN⟩; rw [h]; exact EReal.bot_lt_coe r⟩)
  exact ⟨_, (EReal.coe_toReal h1.ne h2.ne').symm⟩

theorem real_of_abs_lt (x : EReal) (h : max x (-x) < ⊤) : ∃ r : ℝ, x = r := by
  refine ⟨x.toReal, (EReal.coe_toReal ?_ ?_).symm⟩
  · rintro rfl; simp at h
  · rintro rfl; simp at h

/-! ### Constants -/

theorem c_neg_inf : Ideal.ofBits .f32 4286578688#32 = ⊥ := by
  simp [Ideal.ofBits, Ideal.ieee]

theorem c_inf : Ideal.ofBits .f32 2139095040#32 = ⊤ := by
  simp [Ideal.ofBits, Ideal.ieee]

theorem c_eighth : Ideal.ofBits .f32 1040187392#32 = ((1 / 8 : ℝ) : EReal) := by
  simp [Ideal.ofBits, Ideal.ieee, -EReal.coe_mul]; norm_num

theorem c_two : Ideal.ofBits .f32 1073741824#32 = ((2 : ℝ) : EReal) := by
  simp [Ideal.ofBits, Ideal.ieee, -EReal.coe_mul]; norm_num

theorem c_half : ∃ r : ℝ, Ideal.ofBits .f32 1056964608#32 = r := by
  simp [Ideal.ofBits, Ideal.ieee, -EReal.coe_mul]

theorem c_64 : ∃ r : ℝ, Ideal.ofBits .f32 1115684864#32 = r := by
  simp [Ideal.ofBits, Ideal.ieee, -EReal.coe_mul]

theorem c_split : ∃ r : ℝ, Ideal.ofBits .f32 1233125384#32 = r := by
  simp [Ideal.ofBits, Ideal.ieee, -EReal.coe_mul]

theorem c_log2 : ∃ r : ℝ, Ideal.ofBits .f32 1060205080#32 = r := by
  simp [Ideal.ofBits, Ideal.ieee, -EReal.coe_mul]

theorem c_log2e : ∃ r : ℝ, Ideal.ofBits .f32 1069066811#32 = r := by
  simp [Ideal.ofBits, Ideal.ieee, -EReal.coe_mul]

end Cert.Soft
-- ==== Proof.Finite.lean ====
/- The precondition says that every query, key and gain is a real number. -/
module

public import proofs.«01_k».proof.Proof.Soft
public import proofs.«01_k».proof.Proof.Gen.Pre_finite
public import Idealize.ShloMosaic.Lib.ReduceAll

@[expose] public section

noncomputable section
namespace Cert.Finite
open Idealize.ShloMosaic Cert.Soft

/-- Every element of an array is a real number. -/
def IsReal {s : Shape} (x : s.Idx → EReal) : Prop := ∀ i, ∃ r : ℝ, x i = r

theorem isReal_of_lt {s : Shape} (x : FVec Ideal s .f32) (c : FVec Ideal s .f32) (hc : ∀ i, c i = Ideal.ofBits .f32 2139095040#32)
    (h : ∀ i, cmpf .olt (Host.absf x) c i = 1#1) : IsReal (x : s.Idx → EReal) := fun i => by
  have e : (BitVec.ofBool (decide (max (x i : EReal) (-(x i : EReal)) < (c i : EReal)))) = 1#1 := h i
  rw [hc i, c_inf] at e
  refine real_of_abs_lt _ ?_
  by_contra hn
  rw [decide_eq_false hn] at e
  exact absurd e (by decide)

theorem and_one (a b : BitVec 1) (h : a &&& b = 1#1) : a = 1#1 ∧ b = 1#1 := by
  revert h; revert a b; decide

/-- What the precondition gives. -/
theorem of_pre (q : FVec Ideal Pre_finite.S4x8448x12x64 .f32) (k v : FVec Ideal Pre_finite.S4x8448x4x64 .f32) (g h : FVec Ideal Pre_finite.S64 .f32)
    (e : Cert.Pre_finite.fn q k v g h = fun _ => 1#1) :
    IsReal (q : Pre_finite.S4x8448x12x64.Idx → EReal) ∧ IsReal (k : Pre_finite.S4x8448x4x64.Idx → EReal)
      ∧ IsReal (g : Pre_finite.S64.Idx → EReal) ∧ IsReal (h : Pre_finite.S64.Idx → EReal) := by
  have e0 := congrFun e ix0
  dsimp only [Cert.Pre_finite.fn, Cert.Pre_finite.fn_part1] at e0
  haveI : Subsingleton Pre_finite.S_.Idx := ⟨fun a b => funext fun i => i.elim0⟩
  obtain ⟨e1, eh⟩ := and_one _ _ e0
  obtain ⟨e2, eg⟩ := and_one _ _ e1
  obtain ⟨eq, ek⟩ := and_one _ _ e2
  exact ⟨isReal_of_lt _ _ (fun _ => rfl) (Host.reduce_andi_all _ _ _ _ _ eq), isReal_of_lt _ _ (fun _ => rfl) (Host.reduce_andi_all _ _ _ _ _ ek),
    isReal_of_lt _ _ (fun _ => rfl) (Host.reduce_andi_all _ _ _ _ _ eg), isReal_of_lt _ _ (fun _ => rfl) (Host.reduce_andi_all _ _ _ _ _ eh)⟩

end Cert.Finite
-- ==== Proof.Scale.lean ====
/- The host's scale and shift, as real numbers. -/
module

public import proofs.«01_k».proof.Proof.HostS
public import proofs.«01_k».proof.Proof.Finite

@[expose] public section

set_option maxRecDepth 16384

noncomputable section
namespace Cert.KernelIdeal.Att
open Cert.KernelIdeal Cert.KernelIdeal.Gen Idealize.ShloMosaic Cert.Soft Cert.Finite

theorem amax_real (g : S64.Idx → EReal) (hg : IsReal g) : ∃ r : ℝ, amax g = r := by
  unfold amax
  rw [c_neg_inf]
  refine fold_max_real (by norm_num) _ fun k => ?_
  obtain ⟨r, h⟩ := hg (ix1 k)
  exact ⟨max r (-r), by rw [h]; norm_cast⟩

theorem pow2_pos (r : ℝ) : ∃ u : ℝ, 0 < u ∧ pow2 (r : EReal) = u := by
  obtain ⟨A, hA⟩ := c_log2
  obtain ⟨B, hB⟩ := c_log2e
  have e : ∃ y : ℝ, Ideal.log (if (0 : EReal) < (r : EReal) then (r : EReal) else 1) = y := by
    by_cases h : (0 : EReal) < (r : EReal)
    · rw [if_pos h, Ideal.log_coe, if_neg (not_le.2 (by exact_mod_cast h))]
      exact ⟨_, rfl⟩
    · rw [if_neg h, ← EReal.coe_one, Ideal.log_coe, if_neg (by norm_num)]
      exact ⟨_, rfl⟩
  obtain ⟨y, hy⟩ := e
  unfold pow2
  rw [hA, hB, hy, ← EReal.coe_mul, Ideal.liftRound_coe, ← EReal.coe_neg, ← EReal.coe_mul, Ideal.exp_coe]
  exact ⟨_, Real.exp_pos _, rfl⟩

theorem l2e_eq : l2e = ((1 / 8 / Real.log 2 : ℝ) : EReal) := by
  have h2 : 0 < Real.log 2 := Real.log_pos (by norm_num)
  unfold l2e
  rw [c_eighth, c_two, Ideal.log_coe, if_neg (by norm_num), Ideal.div_coe h2.ne', one_mul, ← EReal.coe_mul]
  congr 1
  ring

/-- The coarse part of a real number is the number itself, so nothing is left. -/
theorem hi_real (z : ℝ) : hi (z : EReal) = z := by
  obtain ⟨A, hA⟩ := c_split
  unfold hi
  rw [hA, ← EReal.coe_mul, ← EReal.coe_sub, ← EReal.coe_sub]
  congr 1
  ring

theorem sub_hi_real (z : ℝ) : (z : EReal) - hi (z : EReal) = 0 := by
  rw [hi_real, ← EReal.coe_sub, sub_self, EReal.coe_zero]

end Cert.KernelIdeal.Att
-- ==== Proof.Keys.lean ====
/- Sums over the keys, tile by tile, and over a packed head. -/
module

public import proofs.«01_k».proof.Proof.Soft

@[expose] public section

set_option maxRecDepth 16384

noncomputable section
namespace Cert.Soft
open Idealize.ShloMosaic
open scoped BigOperators

/-- The row key `j` comes from: the 256 context rows lie last and are attended first. -/
def keyRow (j : Fin 8448) : Fin 8448 := if h : j.val < 256 then ⟨8192 + j.val, by omega⟩ else ⟨j.val - 256, by omega⟩

/-- The row context key `j` comes from. -/
def ctxRow (j : Fin 256) : Fin 8448 := ⟨8192 + j.val, by omega⟩

theorem sum_tiles (g : Fin 8192 → EReal) :
    ∑ j, g j = ∑ t : Fin 32, ∑ x : Fin 256, g ⟨256 * t.val + x.val, by omega⟩ := by
  rw [← (finProdFinEquiv (m := 32) (n := 256)).sum_comp g, Fintype.sum_prod_type]
  refine Finset.sum_congr rfl fun t _ => Finset.sum_congr rfl fun x _ => congrArg g (Fin.ext ?_)
  show x.val + 256 * t.val = 256 * t.val + x.val
  omega

/-- All the keys: the context's tile, then the tiles of latents. -/
theorem sum_keys (f : Fin 8448 → EReal) :
    ∑ j, f (keyRow j) = ∑ x, f (ctxRow x) + ∑ t : Fin 32, ∑ x : Fin 256, f ⟨256 * t.val + x.val, by omega⟩ := by
  refine (Fin.sum_univ_add (a := 256) (b := 8192) fun j => f (keyRow j)).trans ?_
  refine congrArg₂ (· + ·) (Finset.sum_congr rfl fun x _ => congrArg f ?_) ?_
  · have h : (Fin.castAdd 8192 x : Fin (256 + 8192)).val < 256 := x.isLt
    unfold keyRow ctxRow
    rw [dif_pos h]
    rfl
  · rw [← sum_tiles fun j => f ⟨j.val, by omega⟩]
    refine Finset.sum_congr rfl fun x _ => congrArg f ?_
    have hv : (Fin.natAdd 256 x : Fin (256 + 8192)).val = 256 + x.val := rfl
    unfold keyRow
    rw [dif_neg (by rw [hv]; omega)]
    refine Fin.ext ?_
    show (Fin.natAdd 256 x : Fin (256 + 8192)).val - 256 = x.val
    omega

/-- A packed head's product is the head's: past the first 64 channels one of the two factors is zero. -/
theorem sum_packed (A B : Fin 256 → EReal) (a b : Fin 64 → ℝ)
    (hA : ∀ d, A d = if d.val < 128 then (a ⟨d.val % 64, by omega⟩ : EReal) else 0)
    (hB : ∀ d, B d = if d.val % 128 < 64 then (b ⟨d.val % 64, by omega⟩ : EReal) else 0) :
    ∑ d, A d * B d = ((∑ d, a d * b d : ℝ) : EReal) := by
  rw [← coe_sum]
  refine (Fin.sum_univ_add (a := 64) (b := 192) fun d => A d * B d).trans ?_
  rw [Finset.sum_eq_zero (s := Finset.univ) (f := fun i : Fin 192 => A (Fin.natAdd 64 i) * B (Fin.natAdd 64 i)), add_zero]
  · refine Finset.sum_congr rfl fun d _ => ?_
    have hv : (Fin.castAdd 192 d : Fin (64 + 192)).val = d.val := rfl
    rw [hA, hB, if_pos (by rw [hv]; omega), if_pos (by rw [hv]; omega), EReal.coe_mul]
    have e : (⟨(Fin.castAdd 192 d : Fin (64 + 192)).val % 64, by omega⟩ : Fin 64) = d := Fin.ext (by show d.val % 64 = d.val; omega)
    rw [e]
  · intro i _
    have hv : (Fin.natAdd 64 i : Fin (64 + 192)).val = 64 + i.val := rfl
    by_cases h : 64 + i.val < 128
    · rw [hB, if_neg (by rw [hv]; omega), mul_zero]
    · rw [hA, if_neg (by rw [hv]; omega), zero_mul]

end Cert.Soft
-- ==== Proof.Ker.lean ====
/- What the kernel writes: a softmax average of the values for each query. -/
module

public import proofs.«01_k».proof.Proof.Host
public import proofs.«01_k».proof.Proof.Scale
public import proofs.«01_k».proof.Proof.Keys

@[expose] public section

set_option maxRecDepth 16384

noncomputable section
namespace Cert.KernelIdeal.Att
open Cert.KernelIdeal Cert.KernelIdeal.Gen Idealize.ShloMosaic Idealize.ShloMosaic.TcCoe Idealize.SL.Sem Cert.Soft Cert.Finite
variable (m : (ℓ : Loc nD τ sig) → Buf (Elt Ideal) ℓ) (c : Dev nD)

/-- The score of key row `j` for head `n` of query row `R`: an eighth of their product. -/
def score (Q : S4x8448x12x64.Idx → EReal) (K : S4x8448x4x64.Idx → EReal) (b : Fin 4) (R : Fin 8448) (n : Fin 12) (j : Fin 8448) : ℝ :=
  (∑ d : Fin 64, (Q (ix4 b R n d)).toReal * (K (ix4 b j ⟨n.val / 3, by omega⟩ d)).toReal) / 8

/-- The packed operands' scaled and shifted product is the score over the logarithm of two, less the shift. -/
theorem exponent (q8 : Fin 256 → EReal) (k8 : Fin 256 → EReal) (qs ks : Fin 64 → EReal) (hq : ∀ d, ∃ r : ℝ, qs d = r) (hk : ∀ d, ∃ r : ℝ, ks d = r)
    (u w T : ℝ) (hu : 0 < u) (hw : 0 < w)
    (h1 : ∀ d, q8 d = if d.val < 128 then hi (qs ⟨d.val % 64, by omega⟩ * (u : EReal))
      else qs ⟨d.val % 64, by omega⟩ * (u : EReal) - hi (qs ⟨d.val % 64, by omega⟩ * (u : EReal)))
    (h2 : ∀ d, k8 d = if d.val % 128 < 64 then hi (ks ⟨d.val % 64, by omega⟩ * (w : EReal))
      else ks ⟨d.val % 64, by omega⟩ * (w : EReal) - hi (ks ⟨d.val % 64, by omega⟩ * (w : EReal))) :
    (∑ d, q8 d * k8 d) * Ideal.div l2e ((u : EReal) * (w : EReal)) - (T : EReal)
      = (((∑ d, (qs d).toReal * (ks d).toReal) / 8 / Real.log 2 - T : ℝ) : EReal) := by
  have h2' : 0 < Real.log 2 := Real.log_pos (by norm_num)
  have eq : ∀ d, qs d = ((qs d).toReal : EReal) := fun d => by obtain ⟨r, h⟩ := hq d; rw [h, EReal.toReal_coe]
  have ek : ∀ d, ks d = ((ks d).toReal : EReal) := fun d => by obtain ⟨r, h⟩ := hk d; rw [h, EReal.toReal_coe]
  rw [sum_packed q8 k8 (fun d => (qs d).toReal * u) (fun d => (ks d).toReal * w)
    (fun d => by rw [h1, eq, ← EReal.coe_mul, sub_hi_real, hi_real]; simp only [EReal.toReal_coe]) (fun d => by rw [h2, ek, ← EReal.coe_mul, sub_hi_real, hi_real]; simp only [EReal.toReal_coe]),
    l2e_eq, ← EReal.coe_mul, Ideal.div_coe (mul_pos hu hw).ne', ← EReal.coe_mul, ← EReal.coe_mul, ← EReal.coe_sub]
  congr 2
  rw [show (∑ d, (qs d).toReal * u * ((ks d).toReal * w)) = (∑ d, (qs d).toReal * (ks d).toReal) * (u * w) from by
    rw [Finset.sum_mul]; exact Finset.sum_congr rfl fun d _ => by ring]
  field_simp

/-- A tile's share of a query's sum. -/
theorem wsum_eq (Q : S4x8448x12x64.Idx → EReal) (K : S4x8448x4x64.Idx → EReal) (X : S4x8448x4x64.Idx → EReal) (G H : S64.Idx → EReal)
    (hQ : m ((c : Thread nD τ).loc main_arg0) = Q) (hK : m ((c : Thread nD τ).loc main_arg1) = K) (hX : m ((c : Thread nD τ).loc main_arg2) = X)
    (hG : m ((c : Thread nD τ).loc main_arg3) = G) (hH : m ((c : Thread nD τ).loc main_arg4) = H)
    (rQ : IsReal Q) (rK : IsReal K) (rG : IsReal G) (rH : IsReal H) :
    ∃ T : ℝ, ∀ (b : Fin 4) (R : Fin 8448) (n : Fin 12) (t : Fin 33) (l : Fin 128),
      wsum (V m c main_v43) (V m c main_v53) (V m c main_v65) (V m c main_v69) b R n t l
        = ∑ x : Fin 256, Ideal.exp2 ((score Q K b R n ⟨256 * t.val + x.val, by omega⟩ / Real.log 2 - T : ℝ) : EReal)
          * (if hl : l.val < 64 then X (ix4 b ⟨256 * t.val + x.val, by omega⟩ ⟨n.val / 3, by omega⟩ ⟨l.val, hl⟩) else 1) := by
  obtain ⟨g, hg⟩ := amax_real G rG
  obtain ⟨h, hh⟩ := amax_real H rH
  obtain ⟨u, hu, eu⟩ := pow2_pos g
  obtain ⟨w, hw, ew⟩ := pow2_pos h
  obtain ⟨A, hA⟩ := c_half
  obtain ⟨B, hB⟩ := c_64
  have s0 : ∀ x, @Eq EReal (V m c main_v43 (ix2 0 x)) (Ideal.div l2e ((u : EReal) * (w : EReal))) := fun x => by
    rw [(s_apply m c x).1, hG, hH, hg, hh, eu, ew]
  have s1 : ∀ x, @Eq EReal (V m c main_v43 (ix2 1 x)) ((A * (B * g * h * (1 / 8 / Real.log 2)) : ℝ) : EReal) := fun x => by
    rw [(s_apply m c x).2, hG, hH, hg, hh, hA, hB, l2e_eq]
    norm_cast
  have eu' : @Eq EReal (V m c main_v11 ix0) u := by rw [v11_eq m c, hG, hg, eu]
  have ew' : @Eq EReal (V m c main_v23 ix0) w := by rw [v23_eq m c, hH, hh, ew]
  refine ⟨A * (B * g * h * (1 / 8 / Real.log 2)), fun b R n t l => ?_⟩
  unfold wsum
  refine Finset.sum_congr rfl fun x _ => ?_
  refine congrArg₂ (· * ·) (congrArg Ideal.exp2 ?_) ?_
  · rw [s0 x, s1 x]
    refine exponent _ _ (fun d => Q (ix4 b R n d)) (fun d => K (ix4 b ⟨256 * t.val + x.val, by omega⟩ ⟨n.val / 3, by omega⟩ d))
      (fun d => rQ _) (fun d => rK _) u w _ hu hw (fun d => ?_) (fun d => ?_)
    · rw [q_apply m c b R n d Q _ hQ rfl, eu']
    · rw [k_apply m c b t ⟨n.val / 3, by omega⟩ d x K _ hK rfl, ew']
  · rw [v_apply m c b ⟨n.val / 3, by omega⟩ ⟨256 * t.val + x.val, by omega⟩ l, hX]

/-- A latent's query averages over every key, a context query over the context's keys. -/
theorem kernel_avg (Q : S4x8448x12x64.Idx → EReal) (K : S4x8448x4x64.Idx → EReal) (X : S4x8448x4x64.Idx → EReal) (G H : S64.Idx → EReal)
    (hQ : m ((c : Thread nD τ).loc main_arg0) = Q) (hK : m ((c : Thread nD τ).loc main_arg1) = K) (hX : m ((c : Thread nD τ).loc main_arg2) = X)
    (hG : m ((c : Thread nD τ).loc main_arg3) = G) (hH : m ((c : Thread nD τ).loc main_arg4) = H)
    (rQ : IsReal Q) (rK : IsReal K) (rG : IsReal G) (rH : IsReal H) (b : Fin 4) (R : Fin 8448) (ch : Fin 768) :
    @Eq EReal ((dats m 0 c).arrAt 4 cfg0.N (ix3 b R ch))
      (if R.val < 8192 then avg (fun j => score Q K b R ⟨ch.val / 64, by omega⟩ (keyRow j)) (fun j => X (ix4 b (keyRow j) ⟨ch.val / 192, by omega⟩ ⟨ch.val % 64, by omega⟩))
        else avg (fun j => score Q K b R ⟨ch.val / 64, by omega⟩ (ctxRow j)) (fun j => X (ix4 b (ctxRow j) ⟨ch.val / 192, by omega⟩ ⟨ch.val % 64, by omega⟩))) := by
  obtain ⟨T, hT⟩ := wsum_eq m c Q K X G H hQ hK hX hG hH rQ rK rG rH
  rw [result_apply]
  unfold tot
  simp only [hT]
  have hch : ch.val / 64 / 3 = ch.val / 192 := by omega
  have hl : ch.val % 64 < 64 := by omega
  have hr : ¬ ch.val % 64 + 64 < 64 := by omega
  simp only [hch, dif_pos hl, dif_neg hr]
  by_cases h : R.val < 8192
  · simp only [if_pos h]
    rw [← avg_pow2 (by norm_num) _ _ T]
    rw [sum_keys fun j => Ideal.exp2 ((score Q K b R ⟨ch.val / 64, by omega⟩ j / Real.log 2 - T : ℝ) : EReal) * X (ix4 b j ⟨ch.val / 192, by omega⟩ ⟨ch.val % 64, by omega⟩),
      sum_keys fun j => Ideal.exp2 ((score Q K b R ⟨ch.val / 64, by omega⟩ j / Real.log 2 - T : ℝ) : EReal) * 1]
    rfl
  · simp only [if_neg h, add_zero]
    rw [← avg_pow2 (by norm_num) _ _ T]
    rfl

end Cert.KernelIdeal.Att
-- ==== Proof.RefA.lean ====
/- What the reference computes: a softmax average of the values for each query. -/
module

public import proofs.«01_k».proof.Proof.Ker
public import proofs.«01_k».proof.Proof.Gen.ReferenceIdeal.Read
public import Idealize.ShloMosaic.Lib.Pointwise

@[expose] public section

set_option maxRecDepth 16384

noncomputable section
namespace Cert.ReferenceIdeal.Att
open Cert.ReferenceIdeal Cert.ReferenceIdeal.Gen Cert.ReferenceIdeal.Read Idealize.ShloMosaic Idealize.ShloMosaic.TcCoe Idealize.SL.Sem Cert.Soft Cert.Finite
open Cert.KernelIdeal.Att (score)
variable (Q : S4x8448x12x64.Idx → EReal) (K X : S4x8448x4x64.Idx → EReal)

/-- The joined keys, read at a row of the argument. -/
theorem k_apply (b : Fin 4) (j : Fin 8448) (h : Fin 4) (d : Fin 64) :
    @Eq EReal (val_main_v6 (F := Ideal) K (ix4 b j h d)) (K (ix4 b (keyRow j) h d)) := by
  unfold val_main_v6 val_main_v2 val_main_v3 keyRow
  pointwise
  split_ifs <;> rfl

/-- The joined values, read at a row of the argument. -/
theorem x_apply (b : Fin 4) (j : Fin 8448) (h : Fin 4) (d : Fin 64) :
    @Eq EReal (val_main_v7 (F := Ideal) X (ix4 b j h d)) (X (ix4 b (keyRow j) h d)) := by
  unfold val_main_v7 val_main_v4 val_main_v5 keyRow
  pointwise
  split_ifs <;> rfl

/-- The context's values, read at a row of the argument. -/
theorem y_apply (b : Fin 4) (j : Fin 256) (h : Fin 4) (d : Fin 64) :
    @Eq EReal (val_main_v5 (F := Ideal) X (ix4 b j h d)) (X (ix4 b (ctxRow j) h d)) := by
  unfold val_main_v5 ctxRow
  pointwise

/-- A product over a head's channels, an eighth of it taken, is the score. -/
theorem score_eq (rQ : IsReal Q) (rK : IsReal K) (b : Fin 4) (R : Fin 8448) (n : Fin 12) (h : Fin 4) (hn : n.val / 3 = h.val) (j : Fin 8448) :
    (∑ d : Fin 64, K (ix4 b j h d) * Q (ix4 b R n d)) * Ideal.ofBits FTy.f32 1040187392#32 = ((score Q K b R n j : ℝ) : EReal) := by
  have eq : ∀ i, Q i = ((Q i).toReal : EReal) := fun i => by obtain ⟨r, e⟩ := rQ i; rw [e, EReal.toReal_coe]
  have ek : ∀ i, K i = ((K i).toReal : EReal) := fun i => by obtain ⟨r, e⟩ := rK i; rw [e, EReal.toReal_coe]
  have e : ∀ d : Fin 64, K (ix4 b j h d) * Q (ix4 b R n d) = (((Q (ix4 b R n d)).toReal * (K (ix4 b j ⟨n.val / 3, by omega⟩ d)).toReal : ℝ) : EReal) := fun d => by
    have hh : (⟨n.val / 3, by omega⟩ : Fin 4) = h := Fin.ext hn
    rw [hh, mul_comm, EReal.coe_mul, ← eq, ← ek]
  rw [Finset.sum_congr rfl fun d _ => e d, coe_sum, c_eighth, ← EReal.coe_mul]
  unfold score
  congr 1
  ring

/-- A latent's scores. -/
theorem s_apply (rQ : IsReal Q) (rK : IsReal K) (b h : Fin 4) (g : Fin 3) (r : Fin 8192) (j : Fin 8448) :
    @Eq EReal (val_main_v12 (F := Ideal) Q K (ix5 b h g r j)) ((score Q K b ⟨r.val, by omega⟩ ⟨h.val * 3 + g.val, by omega⟩ (keyRow j) : ℝ) : EReal) := by
  rw [← score_eq Q K rQ rK b ⟨r.val, by omega⟩ ⟨h.val * 3 + g.val, by omega⟩ h (by show (h.val * 3 + g.val) / 3 = h.val; omega) (keyRow j)]
  unfold val_main_v12 val_main_v10 val_main_v9 val_main_v8 val_main_v0 val_main_v11 val_main_cst
  pointwise
  simp only [k_apply]

/-- A context query's scores. -/
theorem t_apply (rQ : IsReal Q) (rK : IsReal K) (b h : Fin 4) (g : Fin 3) (r : Fin 256) (j : Fin 256) :
    @Eq EReal (val_main_v31 (F := Ideal) Q K (ix5 b h g r j)) ((score Q K b (ctxRow r) ⟨h.val * 3 + g.val, by omega⟩ (ctxRow j) : ℝ) : EReal) := by
  rw [← score_eq Q K rQ rK b (ctxRow r) ⟨h.val * 3 + g.val, by omega⟩ h (by show (h.val * 3 + g.val) / 3 = h.val; omega) (ctxRow j)]
  unfold val_main_v31 val_main_v29 val_main_v28 val_main_v27 val_main_v1 val_main_v3 val_main_v30 val_main_cst_3
  pointwise
  rfl

end Cert.ReferenceIdeal.Att
-- ==== Proof.RefB.lean ====
/- What the reference computes: a softmax average of the values for each query. -/
module

public import proofs.«01_k».proof.Proof.RefA
public import proofs.«01_k».proof.Proof.Gen.ReferenceIdeal.Read
public import Idealize.ShloMosaic.Lib.Pointwise

@[expose] public section

set_option maxRecDepth 16384

noncomputable section
namespace Cert.ReferenceIdeal.Att
open Cert.ReferenceIdeal Cert.ReferenceIdeal.Gen Cert.ReferenceIdeal.Read Idealize.ShloMosaic Idealize.ShloMosaic.TcCoe Idealize.SL.Sem Cert.Soft Cert.Finite
open Cert.KernelIdeal.Att (score)
variable (Q : S4x8448x12x64.Idx → EReal) (K X : S4x8448x4x64.Idx → EReal)

theorem max_bot_real {N : ℕ} (hN : 0 < N) (f : Fin N → EReal) (s : Fin N → ℝ) (hf : ∀ k, f k = s k) :
    ∃ M : ℝ, max (Ideal.ofBits .f32 4286578688#32) (Finset.fold max (Ideal.ofBits .f32 4286578688#32) f Finset.univ) = M := by
  obtain ⟨M, hM⟩ := fold_max_real hN f fun k => ⟨_, hf k⟩
  rw [c_neg_inf, hM]
  exact ⟨M, max_eq_right bot_le⟩

/-- A row's maximum, over every key. -/
theorem fold_latent (S : S4x4x3x8192x8448.Idx → EReal) (b h : Fin 4) (g : Fin 3) (r : Fin 8192) (f : EReal)
    (hf : Finset.fold max (Ideal.ofBits .f32 4286578688#32) (fun x => S (ix5 b h g r x)) Finset.univ = f) :
    @Eq EReal (Host.reduce (s := S4x4x3x8192x8448) (FloatOps.maximumf (F := Ideal) (φ := .f32)) S (constant (F := Ideal) S_ .f32 0xFF800000#32) reducesTo_S4x4x3x8192x8448_S4x4x3x8192_d4 h_S_ (ix4 b h g r)) f := by
  pointwise
  exact hf

/-- A row's maximum, over the context's keys. -/
theorem fold_context (S : S4x4x3x256x256.Idx → EReal) (b h : Fin 4) (g : Fin 3) (r : Fin 256) (f : EReal)
    (hf : Finset.fold max (Ideal.ofBits .f32 4286578688#32) (fun x => S (ix5 b h g r x)) Finset.univ = f) :
    @Eq EReal (Host.reduce (s := S4x4x3x256x256) (FloatOps.maximumf (F := Ideal) (φ := .f32)) S (constant (F := Ideal) S_ .f32 0xFF800000#32) reducesTo_S4x4x3x256x256_S4x4x3x256_d4 h_S_ (ix4 b h g r)) f := by
  pointwise
  exact hf

/-- A latent's largest score is a real number. -/
theorem m_apply (rQ : IsReal Q) (rK : IsReal K) (b h : Fin 4) (g : Fin 3) (r : Fin 8192) :
    ∃ M : ℝ, @Eq EReal (val_main_v15 (F := Ideal) Q K (ix4 b h g r)) M := by
  obtain ⟨M, hM⟩ := max_bot_real (N := 8448) (by norm_num) (fun j => val_main_v12 (F := Ideal) Q K (ix5 b h g r j))
    (fun j => score Q K b ⟨r.val, by omega⟩ ⟨h.val * 3 + g.val, by omega⟩ (keyRow j)) (fun j => s_apply Q K rQ rK b h g r j)
  have e : @Eq EReal (val_main_v13 (F := Ideal) Q K (ix4 b h g r)) (Finset.fold max (Ideal.ofBits .f32 4286578688#32) (fun j => val_main_v12 (F := Ideal) Q K (ix5 b h g r j)) Finset.univ) := by
    unfold val_main_v13 val_main_cst_0
    exact fold_latent _ b h g r _ rfl
  refine ⟨M, ?_⟩
  rw [val_main_v15_apply, val_main_v14_apply, val_main_cst_1_apply, e]
  exact hM

/-- A context query's largest score is a real number. -/
theorem n_apply (rQ : IsReal Q) (rK : IsReal K) (b h : Fin 4) (g : Fin 3) (r : Fin 256) :
    ∃ M : ℝ, @Eq EReal (val_main_v34 (F := Ideal) Q K (ix4 b h g r)) M := by
  obtain ⟨M, hM⟩ := max_bot_real (N := 256) (by norm_num) (fun j => val_main_v31 (F := Ideal) Q K (ix5 b h g r j))
    (fun j => score Q K b (ctxRow r) ⟨h.val * 3 + g.val, by omega⟩ (ctxRow j)) (fun j => t_apply Q K rQ rK b h g r j)
  have e : @Eq EReal (val_main_v32 (F := Ideal) Q K (ix4 b h g r)) (Finset.fold max (Ideal.ofBits .f32 4286578688#32) (fun j => val_main_v31 (F := Ideal) Q K (ix5 b h g r j)) Finset.univ) := by
    unfold val_main_v32 val_main_cst_4
    exact fold_context _ b h g r _ rfl
  refine ⟨M, ?_⟩
  rw [val_main_v34_apply, val_main_v33_apply, val_main_cst_5_apply, e]
  exact hM

/-- A latent's weights. -/
theorem p_apply (b h : Fin 4) (g : Fin 3) (r : Fin 8192) (j : Fin 8448) :
    @Eq EReal (val_main_v23 (F := Ideal) Q K (ix5 b h g r j))
      (Ideal.div (Ideal.exp (val_main_v12 (F := Ideal) Q K (ix5 b h g r j) - val_main_v15 (F := Ideal) Q K (ix4 b h g r)))
        (∑ i : Fin 8448, Ideal.exp (val_main_v12 (F := Ideal) Q K (ix5 b h g r i) - val_main_v15 (F := Ideal) Q K (ix4 b h g r)))) := by
  unfold val_main_v23 val_main_v22 val_main_v21 val_main_v20 val_main_v19 val_main_v18 val_main_v17 val_main_v16 val_main_cst_2
  generalize val_main_v12 (F := Ideal) Q K = S
  generalize val_main_v15 (F := Ideal) Q K = M
  pointwise

/-- A context query's weights. -/
theorem w_apply (b h : Fin 4) (g : Fin 3) (r : Fin 256) (j : Fin 256) :
    @Eq EReal (val_main_v42 (F := Ideal) Q K (ix5 b h g r j))
      (Ideal.div (Ideal.exp (val_main_v31 (F := Ideal) Q K (ix5 b h g r j) - val_main_v34 (F := Ideal) Q K (ix4 b h g r)))
        (∑ i : Fin 256, Ideal.exp (val_main_v31 (F := Ideal) Q K (ix5 b h g r i) - val_main_v34 (F := Ideal) Q K (ix4 b h g r)))) := by
  unfold val_main_v42 val_main_v41 val_main_v40 val_main_v39 val_main_v38 val_main_v37 val_main_v36 val_main_v35 val_main_cst_6
  generalize val_main_v31 (F := Ideal) Q K = S
  generalize val_main_v34 (F := Ideal) Q K = M
  pointwise

end Cert.ReferenceIdeal.Att
-- ==== Proof.Ref.lean ====
/- What the reference computes: a softmax average of the values for each query. -/
module

public import proofs.«01_k».proof.Proof.RefB
public import proofs.«01_k».proof.Proof.Gen.ReferenceIdeal.Read
public import Idealize.ShloMosaic.Lib.Pointwise

@[expose] public section

set_option maxRecDepth 16384

noncomputable section
namespace Cert.ReferenceIdeal.Att
open Cert.ReferenceIdeal Cert.ReferenceIdeal.Gen Cert.ReferenceIdeal.Read Idealize.ShloMosaic Idealize.ShloMosaic.TcCoe Idealize.SL.Sem Cert.Soft Cert.Finite
open Cert.KernelIdeal.Att (score)
variable (Q : S4x8448x12x64.Idx → EReal) (K X : S4x8448x4x64.Idx → EReal)

/-- The result, from the weights and values. -/
theorem o_apply (b : Fin 4) (R : Fin 8448) (ch : Fin 768) :
    @Eq EReal (val_main_v47 (F := Ideal) Q K X (ix3 b R ch)) (if h : R.val < 8192 then
      ∑ x, val_main_v7 (F := Ideal) X (ix4 b x ⟨ch.val / 192, by omega⟩ ⟨ch.val % 64, by omega⟩) *
          val_main_v23 (F := Ideal) Q K (ix5 b ⟨ch.val / 192, by omega⟩ ⟨ch.val / 64 % 3, by omega⟩ ⟨R.val, h⟩ x)
    else
      ∑ x, val_main_v5 (F := Ideal) X (ix4 b x ⟨ch.val / 192, by omega⟩ ⟨ch.val % 64, by omega⟩) *
          val_main_v42 (F := Ideal) Q K (ix5 b ⟨ch.val / 192, by omega⟩ ⟨ch.val / 64 % 3, by omega⟩ ⟨R.val - 8192, by omega⟩ x)) := by
  unfold val_main_v47 val_main_v46 val_main_v26 val_main_v25 val_main_v24 val_main_v45 val_main_v44 val_main_v43
  pointwise

/-- A latent's query averages over every key, a context query over the context's keys. -/
theorem reference_avg (rQ : IsReal Q) (rK : IsReal K) (b : Fin 4) (R : Fin 8448) (ch : Fin 768) :
    @Eq EReal (val_main_v47 (F := Ideal) Q K X (ix3 b R ch))
      (if R.val < 8192 then avg (fun j => score Q K b R ⟨ch.val / 64, by omega⟩ (keyRow j)) (fun j => X (ix4 b (keyRow j) ⟨ch.val / 192, by omega⟩ ⟨ch.val % 64, by omega⟩))
        else avg (fun j => score Q K b R ⟨ch.val / 64, by omega⟩ (ctxRow j)) (fun j => X (ix4 b (ctxRow j) ⟨ch.val / 192, by omega⟩ ⟨ch.val % 64, by omega⟩))) := by
  rw [o_apply]
  have hn : (⟨ch.val / 192 * 3 + ch.val / 64 % 3, by omega⟩ : Fin 12) = ⟨ch.val / 64, by omega⟩ := Fin.ext (by show _ = _; dsimp only; omega)
  by_cases h : R.val < 8192
  · rw [dif_pos h, if_pos h]
    obtain ⟨M, hM⟩ := m_apply Q K rQ rK b ⟨ch.val / 192, by omega⟩ ⟨ch.val / 64 % 3, by omega⟩ ⟨R.val, h⟩
    simp only [p_apply, hM, s_apply Q K rQ rK, x_apply, hn]
    exact avg_shift (by norm_num) _ _ M
  · rw [dif_neg h, if_neg h]
    obtain ⟨M, hM⟩ := n_apply Q K rQ rK b ⟨ch.val / 192, by omega⟩ ⟨ch.val / 64 % 3, by omega⟩ ⟨R.val - 8192, by omega⟩
    have hR : ctxRow ⟨R.val - 8192, by omega⟩ = R := Fin.ext (by show 8192 + (R.val - 8192) = R.val; omega)
    simp only [w_apply, hM, t_apply Q K rQ rK, y_apply, hn, hR]
    exact avg_shift (by norm_num) _ _ M

end Cert.ReferenceIdeal.Att
-- ==== Proof.Rows.lean ====
/- A row's normalisation to mean zero and unit variance, and the logistic function, as kernel and reference write them. -/
module

public import Idealize.ShloMosaic.Lib.Pointwise

@[expose] public section

noncomputable section
namespace Cert.Rows
open Idealize.ShloMosaic

/-- The mean of a row of 1024. -/
def mean (r : Fin 1024 → EReal) : EReal := Ideal.div (∑ j, r j) (Ideal.ofBits .f32 0x44800000#32)

/-- A row less its mean, over the root of its variance. -/
def nrm (r : Fin 1024 → EReal) (j : Fin 1024) : EReal :=
  (r j - mean r) * Ideal.rsqrt (mean (fun k => (r k - mean r) * (r k - mean r)) + Ideal.ofBits .f32 0x358637BD#32)

/-- The logistic function, a quotient of one. -/
def lgst (x : EReal) : EReal := Ideal.logistic x

/-- The gated sum of both directions, before the last product. -/
def gated (o z f b : EReal) : EReal := lgst o * (f + b) * (z * lgst z)

/-- A row of the layer's output: the gated row `o`, `z`, `f`, `b` through the weights `w`, scaled by the gate `g` and added to the scaled
    residual row `x`; normalised, then scaled and shifted. -/
def mrg (o z f b x g : Fin 1024 → EReal) (w : Fin 1024 → Fin 1024 → EReal) (gain bias : Fin 1024 → EReal) (j : Fin 1024) : EReal :=
  nrm (fun k => Ideal.ofBits .f32 0x3FB504F3#32 * x k + g k * ∑ d : Fin 1024, gated (o d) (z d) (f d) (b d) * w d k) j * gain j + bias j

/-- A row normalised, scaled and shifted. -/
def hrow (x sc sh : Fin 1024 → EReal) (d : Fin 1024) : EReal := nrm x d * (Ideal.ofBits .f32 0x3F800000#32 + sc d) + sh d

/-- The logarithm of the logistic function, as the kernel writes it. -/
def lsig (g : EReal) : EReal := min g 0 - Ideal.log1p (Ideal.exp (0 - max g (-g)))

end Cert.Rows
-- ==== Proof.MergeBody.lean ====
/- What one step of the merge computes from its blocks. -/
module

public import proofs.«01_k».proof.Proof.Rows
public import proofs.«01_k».proof.Proof.Gen.Kernel2Ideal.Value
public import Idealize.ShloMosaic.Lib.Pipeline.ValueKit
public import Idealize.ShloMosaic.Lib.WholeRead

@[expose] public section

set_option maxRecDepth 16384

noncomputable section
namespace Cert.Kernel2Ideal.Merge
open Cert.Kernel2Ideal Cert.Kernel2Ideal.Gen Idealize.ShloMosaic Idealize.ShloMosaic.TcCoe Idealize.SL.Sem Cert.Rows

/-- The residual row, normalised, with gain and bias. -/
theorem pay1_apply (v21 v23 : FVec Ideal S512x1024 .f32) (v25 v27 v29 : FVec Ideal S1x1024 .f32) (cst : EReal) (a : Fin 512) (j : Fin 1024) :
    @Eq EReal (k0_pay1 (F := Ideal) v21 v23 v25 v27 v29 cst (ix3 0 a j))
      (nrm (fun k => cst * v23 (ix2 a k) + v25 (ix2 0 k) * v21 (ix2 a k)) j * v27 (ix2 0 j) + v29 (ix2 0 j)) := by
  unfold k0_pay1 nrm mean
  pointwise

/-- The gated sum's product with the weights. -/
theorem pay2_apply (v0 v3 : Vec Ideal S1x512x1024 .bf16) (v7 v12 : Vec Ideal S1x1x512x1024 .bf16) (v19 : Vec Ideal S1024x1024 .bf16) (a : Fin 512) (j : Fin 1024) :
    @Eq EReal (k0_pay2 (F := Ideal) v0 v3 v7 v12 v19 (ix2 a j))
      (∑ d : Fin 1024, gated (v7 (ix4 0 0 a d)) (v12 (ix4 0 0 a d)) (v0 (ix3 0 a d)) (v3 (ix3 0 a d)) * v19 (ix2 d j)) := by
  unfold k0_pay2 gated lgst
  pointwise

/-- The five shape changes of loaded words. -/
theorem pays_apply (v22 : Vec Ideal S1x512x1024 .f32) (v24 : Vec Ideal S1x1x1024 .f32) (v26 : Vec Ideal S1x1024 .f32) (a : Fin 512) (j : Fin 1024) :
    @Eq EReal (k0_pay3 (F := Ideal) v22 (ix2 a j)) (v22 (ix3 0 a j)) ∧ @Eq EReal (k0_pay4 (F := Ideal) v24 (ix2 0 j)) (v24 (ix3 0 0 j)) ∧
    @Eq EReal (k0_pay5 (F := Ideal) v26 (ix2 0 j)) (v26 (ix2 0 j)) ∧ @Eq EReal (k0_pay6 (F := Ideal) v26 (ix2 0 j)) (v26 (ix2 0 j)) := by
  refine ⟨?_, ?_, ?_, ?_⟩
  · unfold k0_pay3
    pointwise
  · unfold k0_pay4
    pointwise
  · unfold k0_pay5
    pointwise
  · unfold k0_pay6
    pointwise

/-- The step's result at a row and channel, from the blocks. -/
def stepv (x0 x1 : S1x1x512x1024.Idx → EReal) (x2 x3 x4 : S1x512x1024.Idx → EReal) (x5 : S1x3x1024.Idx → EReal) (x6 : S1024x1024.Idx → EReal)
    (x7 x8 : S1x1024.Idx → EReal) (a : Fin 512) (j : Fin 1024) : EReal :=
  nrm (fun k => Ideal.ofBits .f32 0x3FB504F3#32 * x4 (ix3 0 a k) + x5 (ix3 0 2 k) *
    ∑ d : Fin 1024, gated (x0 (ix4 0 0 a d)) (x1 (ix4 0 0 a d)) (x2 (ix3 0 a d)) (x3 (ix3 0 a d)) * x6 (ix2 d k)) j * x7 (ix2 0 j) + x8 (ix2 0 j)

/-- The words that a step loads, read at the blocks. -/
theorem words_apply (c : Dev nD) (arg2 arg3 : Memref sig .tc .vmem S1x1x512x1024 .bf16) (harg2 : arg2.IsWhole) (harg3 : arg3.IsWhole) (arg4 arg5 : Memref sig .tc .vmem S1x512x1024 .bf16) (harg4 : arg4.IsWhole) (harg5 : arg5.IsWhole)
    (arg6 : Memref sig .tc .vmem S1x512x1024 .f32) (harg6 : arg6.IsWhole) (arg7 : Memref sig .tc .vmem S1x3x1024 .f32) (harg7 : arg7.IsWhole) (arg8 : Memref sig .tc .vmem S1024x1024 .bf16) (harg8 : arg8.IsWhole) (arg9 arg10 : Memref sig .tc .vmem S1x1024 .f32) (harg9 : arg9.IsWhole) (harg10 : arg10.IsWhole)
    (x0 x1 : Vec Ideal S1x1x512x1024 .bf16) (x2 x3 : Vec Ideal S1x512x1024 .bf16) (x4 : Vec Ideal S1x512x1024 .f32) (x5 : Vec Ideal S1x3x1024 .f32) (x6 : Vec Ideal S1024x1024 .bf16) (x7 x8 : Vec Ideal S1x1024 .f32) (a : Fin 512) (j : Fin 1024) :
    @Eq EReal (kernelRun0_A.sl.r (F := Ideal) c arg2 harg2 arg3 harg3 arg4 harg4 arg5 harg5 arg8 harg8 x0 x1 x2 x3 x6 (ix2 a j))
      (∑ d : Fin 1024, gated (x0 (ix4 0 0 a d)) (x1 (ix4 0 0 a d)) (x2 (ix3 0 a d)) (x3 (ix3 0 a d)) * x6 (ix2 d j)) ∧
    @Eq EReal (kernelRun0_A.sl.r_1 (F := Ideal) c arg6 harg6 x4 (ix2 a j)) (x4 (ix3 0 a j)) ∧
    @Eq EReal (kernelRun0_A.sl.r_2 (F := Ideal) c arg7 harg7 x5 (ix2 0 j)) (x5 (ix3 0 2 j)) ∧
    @Eq EReal (kernelRun0_A.sl.r_3 (F := Ideal) c arg9 harg9 x7 (ix2 0 j)) (x7 (ix2 0 j)) ∧
    @Eq EReal (kernelRun0_A.sl.r_4 (F := Ideal) c arg10 harg10 x8 (ix2 0 j)) (x8 (ix2 0 j)) := by
  have e : ∀ {s : Shape} (off size : Fin s.rank → ℕ) (inb) (x : (Rect.unit (s := s) off size inb).toLoadRect.shape.Idx) (y : s.Idx),
      (∀ k, off k + (x k).val = (y k).val) → (Rect.unit (s := s) off size inb).toLoadRect.idx x = y := by
    intro s off size inb x y h
    funext k
    refine Fin.ext (Eq.trans ?_ (h k))
    simp [LoadRect.idx, Rect.unit]
  refine ⟨?_, ?_, ?_, ?_, ?_⟩
  · unfold kernelRun0_A.sl.r
    refine (pay2_apply _ _ _ _ _ a j).trans (Finset.sum_congr rfl fun d _ => ?_)
    rw [harg2.readAt_unread, harg3.readAt_unread, harg4.readAt_unread, harg5.readAt_unread, harg8.readAt_unread]
    rw [e _ _ _ _ (ix4 0 0 a d) fun k => by fin_cases k <;> exact Nat.zero_add _, e _ _ _ _ (ix3 0 a d) fun k => by fin_cases k <;> exact Nat.zero_add _,
      e _ _ _ _ (ix2 d j) fun k => by fin_cases k <;> exact Nat.zero_add _]
  · unfold kernelRun0_A.sl.r_1
    refine (pays_apply _ (fun _ => (0 : EReal)) (fun _ => (0 : EReal)) a j).1.trans ?_
    rw [harg6.readAt_unread]
    exact congrArg x4 (e _ _ _ _ _ fun k => by fin_cases k <;> exact Nat.zero_add _)
  · unfold kernelRun0_A.sl.r_2
    refine (pays_apply (fun _ => (0 : EReal)) _ (fun _ => (0 : EReal)) a j).2.1.trans ?_
    rw [harg7.readAt_unread]
    exact congrArg x5 (e _ _ _ _ _ fun k => by fin_cases k <;> first | rfl | exact Nat.zero_add _)
  · unfold kernelRun0_A.sl.r_3
    refine (pays_apply (fun _ => (0 : EReal)) (fun _ => (0 : EReal)) _ a j).2.2.1.trans ?_
    rw [harg9.readAt_unread]
    exact congrArg x7 (e _ _ _ _ _ fun k => by fin_cases k <;> exact Nat.zero_add _)
  · unfold kernelRun0_A.sl.r_4
    refine (pays_apply (fun _ => (0 : EReal)) (fun _ => (0 : EReal)) _ a j).2.2.2.trans ?_
    rw [harg10.readAt_unread]
    exact congrArg x8 (e _ _ _ _ _ fun k => by fin_cases k <;> exact Nat.zero_add _)

/-- What the step leaves in its output block. -/
theorem out_apply (c : Dev nD) (i : grid0.Coords) (arg2 : Memref sig .tc .vmem S1x1x512x1024 .bf16) (harg2 : arg2.IsWhole) (arg3 : Memref sig .tc .vmem S1x1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x3x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x512x1024 .f32) (harg11 : arg11.IsWhole)
    (x0 : Vec Ideal S1x1x512x1024 .bf16) (x1 : Vec Ideal S1x1x512x1024 .bf16) (x2 : Vec Ideal S1x512x1024 .bf16) (x3 : Vec Ideal S1x512x1024 .bf16) (x4 : Vec Ideal S1x512x1024 .f32) (x5 : Vec Ideal S1x3x1024 .f32) (x6 : Vec Ideal S1024x1024 .bf16) (x7 : Vec Ideal S1x1024 .f32) (x8 : Vec Ideal S1x1024 .f32) (a : Fin 512) (j : Fin 1024) :
    @Eq EReal (out0_A_9 (F := Ideal) c i arg2 harg2 arg3 harg3 arg4 harg4 arg5 harg5 arg6 harg6 arg7 harg7 arg8 harg8 arg9 harg9 arg10 harg10 arg11 harg11 x0 x1 x2 x3 x4 x5 x6 x7 x8 (ix3 0 a j))
      (stepv x0 x1 x2 x3 x4 x5 x6 x7 x8 a j) := by
  have cov := cover0_A_9 (F := Ideal) c i arg2 harg2 arg3 harg3 arg4 harg4 arg5 harg5 arg6 harg6 arg7 harg7 arg8 harg8 arg9 harg9 arg10 harg10 arg11 harg11 x0 x1 x2 x3 x4 x5 x6 x7 x8 (ix3 0 a j)
  unfold out0_A_9
  refine View.read_writes_apply_of_pieces _ _ (fun y : S1x512x1024.Idx => stepv x0 x1 x2 x3 x4 x5 x6 x7 x8 (y 1) (y 2)) _ ?_ (ix3 0 a j) cov
  clear cov
  unfold kernelRun0_A
  refine List.forall_mem_cons.mpr ⟨fun x => ?_, fun p hp => absurd hp List.not_mem_nil⟩
  obtain ⟨a, j, rfl⟩ : ∃ (a : Fin 512) (j : Fin 1024), x = ix3 0 a j := by
    refine ⟨x 1, x 2, funext fun k => ?_⟩
    have h0 : (x 0).val < 1 := (x 0).isLt
    fin_cases k
    · exact Fin.ext (by show (x 0).val = 0; omega)
    · rfl
    · rfl
  refine (pay1_apply _ _ _ _ _ _ a j).trans ?_
  have w := fun k => words_apply c arg2 arg3 harg2 harg3 arg4 arg5 harg4 harg5 arg6 harg6 arg7 harg7 arg8 harg8 arg9 arg10 harg9 harg10 x0 x1 x2 x3 x4 x5 x6 x7 x8 a k
  have hw : (fun k => kernelRun0_A.sl.cst_24 (F := Ideal) * kernelRun0_A.sl.r_1 (F := Ideal) c arg6 harg6 x4 (ix2 a k) + kernelRun0_A.sl.r_2 (F := Ideal) c arg7 harg7 x5 (ix2 0 k) *
      kernelRun0_A.sl.r (F := Ideal) c arg2 harg2 arg3 harg3 arg4 harg4 arg5 harg5 arg8 harg8 x0 x1 x2 x3 x6 (ix2 a k) : Fin 1024 → EReal) =
      fun k => Ideal.ofBits .f32 0x3FB504F3#32 * x4 (ix3 0 a k) + x5 (ix3 0 2 k) *
        ∑ d : Fin 1024, gated (x0 (ix4 0 0 a d)) (x1 (ix4 0 0 a d)) (x2 (ix3 0 a d)) (x3 (ix3 0 a d)) * x6 (ix2 d k) := funext fun k => by
    rw [(w k).1, (w k).2.1, (w k).2.2.1]
    rfl
  refine Eq.trans ?_ (congr (congrArg (stepv x0 x1 x2 x3 x4 x5 x6 x7 x8) (Fin.ext ?_)) (Fin.ext ?_)) (b := stepv x0 x1 x2 x3 x4 x5 x6 x7 x8 a j)
  · unfold stepv
    rw [(w j).2.2.2.1, (w j).2.2.2.2]
    exact congrArg (fun f => nrm f j * x7 (ix2 0 j) + x8 (ix2 0 j)) hw
  · simp [Rect.emb, Rect.unit]
  · simp [Rect.emb, Rect.unit]

end Cert.Kernel2Ideal.Merge
-- ==== Proof.MergeBlocks.lean ====
/- The merge's result array from the arrays it is launched on. -/
module

public import proofs.«01_k».proof.Proof.MergeBody

@[expose] public section

set_option maxRecDepth 16384

noncomputable section
namespace Cert.Kernel2Ideal.Merge
open Cert.Kernel2Ideal Cert.Kernel2Ideal.Gen Idealize.ShloMosaic Idealize.ShloMosaic.TcCoe Idealize.SL.Sem Cert.Rows
open Idealize.ShloMosaic.Pipeline (Dat)
variable (m : (ℓ : Loc nD τ sig) → Buf (Elt Ideal) ℓ)

/-- The blocks' indices at every grid point. -/
theorem idx : ∀ t : Fin cfg0.N, win0_0.index t = ![2, (grid0.coords t 0).val, (grid0.coords t 1).val, 0] ∧
    win0_1.index t = ![3, (grid0.coords t 0).val, (grid0.coords t 1).val, 0] ∧
    win0_2.index t = ![(grid0.coords t 0).val, (grid0.coords t 1).val, 0] ∧
    win0_3.index t = ![(grid0.coords t 0).val, (grid0.coords t 1).val, 0] ∧
    win0_4.index t = ![(grid0.coords t 0).val, (grid0.coords t 1).val, 0] ∧
    win0_5.index t = ![2 * (grid0.coords t 0).val, 0, 0] ∧
    win0_6.index t = ![0, 0] ∧ win0_7.index t = ![0, 0] ∧ win0_8.index t = ![0, 0] ∧
    win0_9.index t = ![(grid0.coords t 0).val, (grid0.coords t 1).val, 0] := by
  decide +kernel

theorem rd0 (c : Dev nD) (t : Fin cfg0.N) (b : Fin 4) (ti : Fin 16) (hb : (grid0.coords t 0).val = b.val) (hi : (grid0.coords t 1).val = ti.val) (a : Fin 512) (x : Fin 1024)
    (R : Fin 8448) (hR : R.val = 512 * ti.val + a.val) : X0_0 m c t (ix4 0 0 a x) = V m c main_v7 (ix4 2 b R x) := by
  unfold X0_0 Pipeline.Window.fill
  rw [dif_pos (moved0_0 t _)]
  unfold iblk
  rw [View.read_apply]
  refine congrArg (V m c main_v7) (funext fun d => Fin.ext ?_)
  refine (Pipeline.Window.rect_emb_val win0_0 t _ d).trans ?_
  rw [(idx t).1]
  fin_cases d
  · rfl
  · show (grid0.coords t 0).val * 1 + 0 = b.val
    omega
  · show (grid0.coords t 1).val * 512 + a.val = R.val
    omega
  · exact Nat.zero_add _

theorem rd1 (c : Dev nD) (t : Fin cfg0.N) (b : Fin 4) (ti : Fin 16) (hb : (grid0.coords t 0).val = b.val) (hi : (grid0.coords t 1).val = ti.val) (a : Fin 512) (x : Fin 1024)
    (R : Fin 8448) (hR : R.val = 512 * ti.val + a.val) : X0_1 m c t (ix4 0 0 a x) = V m c main_v7 (ix4 3 b R x) := by
  unfold X0_1 Pipeline.Window.fill
  rw [dif_pos (moved0_1 t _)]
  unfold iblk
  rw [View.read_apply]
  refine congrArg (V m c main_v7) (funext fun d => Fin.ext ?_)
  refine (Pipeline.Window.rect_emb_val win0_1 t _ d).trans ?_
  rw [(idx t).2.1]
  fin_cases d
  · rfl
  · show (grid0.coords t 0).val * 1 + 0 = b.val
    omega
  · show (grid0.coords t 1).val * 512 + a.val = R.val
    omega
  · exact Nat.zero_add _

theorem rd2 (c : Dev nD) (t : Fin cfg0.N) (b : Fin 4) (ti : Fin 16) (hb : (grid0.coords t 0).val = b.val) (hi : (grid0.coords t 1).val = ti.val) (a : Fin 512) (x : Fin 1024)
    (R : Fin 8448) (hR : R.val = 512 * ti.val + a.val) : X0_2 m c t (ix3 0 a x) = V m c main_v9 (ix3 b R x) := by
  unfold X0_2 Pipeline.Window.fill
  rw [dif_pos (moved0_2 t _)]
  unfold iblk
  rw [View.read_apply]
  refine congrArg (V m c main_v9) (funext fun d => Fin.ext ?_)
  refine (Pipeline.Window.rect_emb_val win0_2 t _ d).trans ?_
  rw [(idx t).2.2.1]
  fin_cases d
  · show (grid0.coords t 0).val * 1 + 0 = b.val
    omega
  · show (grid0.coords t 1).val * 512 + a.val = R.val
    omega
  · exact Nat.zero_add _

theorem rd3 (c : Dev nD) (t : Fin cfg0.N) (b : Fin 4) (ti : Fin 16) (hb : (grid0.coords t 0).val = b.val) (hi : (grid0.coords t 1).val = ti.val) (a : Fin 512) (x : Fin 1024)
    (R : Fin 8448) (hR : R.val = 512 * ti.val + a.val) : X0_3 m c t (ix3 0 a x) = V m c main_v11 (ix3 b R x) := by
  unfold X0_3 Pipeline.Window.fill
  rw [dif_pos (moved0_3 t _)]
  unfold iblk
  rw [View.read_apply]
  refine congrArg (V m c main_v11) (funext fun d => Fin.ext ?_)
  refine (Pipeline.Window.rect_emb_val win0_3 t _ d).trans ?_
  rw [(idx t).2.2.2.1]
  fin_cases d
  · show (grid0.coords t 0).val * 1 + 0 = b.val
    omega
  · show (grid0.coords t 1).val * 512 + a.val = R.val
    omega
  · exact Nat.zero_add _

theorem rd4 (c : Dev nD) (t : Fin cfg0.N) (b : Fin 4) (ti : Fin 16) (hb : (grid0.coords t 0).val = b.val) (hi : (grid0.coords t 1).val = ti.val) (a : Fin 512) (x : Fin 1024)
    (R : Fin 8448) (hR : R.val = 512 * ti.val + a.val) : X0_4 m c t (ix3 0 a x) = V m c main_arg4 (ix3 b R x) := by
  unfold X0_4 Pipeline.Window.fill
  rw [dif_pos (moved0_4 t _)]
  unfold iblk
  rw [View.read_apply]
  refine congrArg (V m c main_arg4) (funext fun d => Fin.ext ?_)
  refine (Pipeline.Window.rect_emb_val win0_4 t _ d).trans ?_
  rw [(idx t).2.2.2.2.1]
  fin_cases d
  · show (grid0.coords t 0).val * 1 + 0 = b.val
    omega
  · show (grid0.coords t 1).val * 512 + a.val = R.val
    omega
  · exact Nat.zero_add _

theorem rd5 (c : Dev nD) (t : Fin cfg0.N) (b : Fin 4) (hb : (grid0.coords t 0).val = b.val) (a : Fin 3) (x : Fin 1024) :
    iblk m c 5 t (ix3 0 a x) = V m c main_v12 (ix3 ⟨2 * b.val, by omega⟩ a x) := by
  unfold iblk
  rw [View.read_apply]
  refine congrArg (V m c main_v12) (funext fun d => Fin.ext ?_)
  refine (Pipeline.Window.rect_emb_val win0_5 t (ix3 0 a x) d).trans ?_
  rw [(idx t).2.2.2.2.2.1]
  fin_cases d
  · show 2 * (grid0.coords t 0).val * 1 + 0 = 2 * b.val
    omega
  · exact Nat.zero_add _
  · exact Nat.zero_add _

theorem rd6 (c : Dev nD) (t : Fin cfg0.N) (a : Fin 1024) (x : Fin 1024) : iblk m c 6 t (ix2 a x) = V m c main_v13 (ix2 a x) := by
  unfold iblk
  rw [View.read_apply]
  refine congrArg (V m c main_v13) (funext fun d => Fin.ext ?_)
  refine (Pipeline.Window.rect_emb_val win0_6 t (ix2 a x) d).trans ?_
  rw [(idx t).2.2.2.2.2.2.1]
  fin_cases d
  · exact Nat.zero_add _
  · exact Nat.zero_add _

theorem rd7 (c : Dev nD) (t : Fin cfg0.N) (a : Fin 1) (x : Fin 1024) : iblk m c 7 t (ix2 a x) = V m c main_v14 (ix2 a x) := by
  unfold iblk
  rw [View.read_apply]
  refine congrArg (V m c main_v14) (funext fun d => Fin.ext ?_)
  refine (Pipeline.Window.rect_emb_val win0_7 t (ix2 a x) d).trans ?_
  rw [(idx t).2.2.2.2.2.2.2.1]
  fin_cases d
  · exact Nat.zero_add _
  · exact Nat.zero_add _

theorem rd8 (c : Dev nD) (t : Fin cfg0.N) (a : Fin 1) (x : Fin 1024) : iblk m c 8 t (ix2 a x) = V m c main_v15 (ix2 a x) := by
  unfold iblk
  rw [View.read_apply]
  refine congrArg (V m c main_v15) (funext fun d => Fin.ext ?_)
  refine (Pipeline.Window.rect_emb_val win0_8 t (ix2 a x) d).trans ?_
  rw [(idx t).2.2.2.2.2.2.2.2.1]
  fin_cases d
  · exact Nat.zero_add _
  · exact Nat.zero_add _

theorem rd9 (c : Dev nD) (X : Buf (Elt Ideal) ((c : Thread nD τ).loc (Pipeline.arrRef spec0 9))) (t : Fin cfg0.N) (b : Fin 4) (ti : Fin 16) (hb : (grid0.coords t 0).val = b.val) (hi : (grid0.coords t 1).val = ti.val)
    (a : Fin 512) (x : Fin 1024) (R : Fin 8192) (hR : R.val = 512 * ti.val + a.val) :
    ((cfg0.win 9).blk t).view.read (Elt Ideal) X (ix3 0 a x) = X (ix3 b R x) := by
  rw [View.read_apply]
  refine congrArg X (funext fun d => Fin.ext ?_)
  refine (Pipeline.Window.rect_emb_val win0_9 t (ix3 0 a x) d).trans ?_
  rw [(idx t).2.2.2.2.2.2.2.2.2]
  fin_cases d
  · show (grid0.coords t 0).val * 1 + 0 = b.val
    omega
  · show (grid0.coords t 1).val * 512 + a.val = R.val
    omega
  · exact Nat.zero_add _

/-- The grid's points: example by example, 16 blocks of rows each. -/
theorem pts : ∀ (b : Fin 4) (i : Fin 16), ∃ t : Fin cfg0.N, (grid0.coords t 0).val = b.val ∧ (grid0.coords t 1).val = i.val ∧ (cfg0.win 9).flush t = true := by
  decide +kernel

/-- The merge's result at a row and channel. -/
theorem result_apply (c : Dev nD) (b : Fin 4) (R : Fin 8192) (j : Fin 1024) :
    (dats m 0 c).arrAt 9 cfg0.N (ix3 b R j) =
      mrg (fun d => V m c main_v7 (ix4 2 b ⟨R.val, by omega⟩ d)) (fun d => V m c main_v7 (ix4 3 b ⟨R.val, by omega⟩ d))
        (fun d => V m c main_v9 (ix3 b ⟨R.val, by omega⟩ d)) (fun d => V m c main_v11 (ix3 b ⟨R.val, by omega⟩ d))
        (fun k => V m c main_arg4 (ix3 b ⟨R.val, by omega⟩ k)) (fun k => V m c main_v12 (ix3 ⟨2 * b.val, by omega⟩ 2 k))
        (fun d k => V m c main_v13 (ix2 d k)) (fun k => V m c main_v14 (ix2 0 k)) (fun k => V m c main_v15 (ix2 0 k)) j := by
  obtain ⟨t, hb, hi, hf⟩ := pts b ⟨R.val / 512, by omega⟩
  have e := congrFun (Value.blocks9 m c t hf) (ix3 0 ⟨R.val % 512, by omega⟩ j)
  have e1 := rd9 c ((dats m 0 c).arrAt 9 cfg0.N) t b ⟨R.val / 512, by omega⟩ hb hi ⟨R.val % 512, by omega⟩ j R (by show R.val = 512 * (R.val / 512) + R.val % 512; omega)
  refine e1.symm.trans (e.trans ?_)
  rw [Value.flushed9_A]
  have e2 := out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (X0_0 m c t) (X0_1 m c t) (X0_2 m c t) (X0_3 m c t) (X0_4 m c t) (iblk m c 5 t) (iblk m c 6 t) (iblk m c 7 t) (iblk m c 8 t) ⟨R.val % 512, by omega⟩ j
  refine Eq.trans ?_ (e2.trans ?_)
  · rfl
  · have hR : (⟨R.val, by omega⟩ : Fin 8448).val = 512 * (⟨R.val / 512, by omega⟩ : Fin 16).val + (⟨R.val % 512, by omega⟩ : Fin 512).val := by
      show R.val = 512 * (R.val / 512) + R.val % 512
      omega
    unfold stepv mrg
    simp only [rd0 m c t b _ hb hi _ _ _ hR, rd1 m c t b _ hb hi _ _ _ hR, rd2 m c t b _ hb hi _ _ _ hR, rd3 m c t b _ hb hi _ _ _ hR, rd4 m c t b _ hb hi _ _ _ hR,
      rd5 m c t b hb, rd6, rd7, rd8]

end Cert.Kernel2Ideal.Merge
-- ==== Proof.MergeHost.lean ====
/- The arrays the merge is launched on, read at an index from the arguments. -/
module

public import proofs.«01_k».proof.Proof.Gen.Kernel2Ideal.Value
public import Idealize.ShloMosaic.Lib.Pointwise
public import Idealize.ShloMosaic.Lib.Claim
public import Idealize.ShloMosaic.Lib.StableHlo.RunRead

@[expose] public section

set_option maxRecDepth 16384

noncomputable section
namespace Cert.Kernel2Ideal.Merge
open Cert.Kernel2Ideal Cert.Kernel2Ideal.Gen Idealize.ShloMosaic Idealize.ShloMosaic.TcCoe Idealize.SL.Sem
open Idealize.ShloMosaic.StableHlo
variable (m : (ℓ : Loc nD τ sig) → Buf (Elt Ideal) ℓ) (c : Dev nD)

theorem stack_tail (W : Valuation τ sig (Elt Ideal)) :
    after (hostOps0.drop 8) W (Proc.devRef .tc main_v7) =
      (truncf (F := Ideal) .bf16 (fun i => concatenate S4x4x8448x1024 0
        [⟨S1x4x8448x1024, W (Proc.devRef .tc main_v2)⟩, ⟨S1x4x8448x1024, W (Proc.devRef .tc main_v3)⟩,
         ⟨S1x4x8448x1024, W (Proc.devRef .tc main_v4)⟩, ⟨S1x4x8448x1024, W (Proc.devRef .tc main_v5)⟩]
         concatenates_S1x4x8448x1024_S1x4x8448x1024_S1x4x8448x1024_S1x4x8448x1024_S4x4x8448x1024_d0 i : S4x4x8448x1024.Idx → EReal) bitsLt_bf16_f32) := by
  simp only [hostOps0, List.drop_succ_cons, List.drop_zero]
  after_reads_simp
  rfl

theorem stack_apply (A B O Z : S1x4x8448x1024.Idx → EReal) (b : Fin 4) (R : Fin 8448) (d : Fin 1024) :
    @Eq EReal (truncf (F := Ideal) .bf16 (fun i => concatenate S4x4x8448x1024 0
        [⟨S1x4x8448x1024, A⟩, ⟨S1x4x8448x1024, B⟩, ⟨S1x4x8448x1024, O⟩, ⟨S1x4x8448x1024, Z⟩]
         concatenates_S1x4x8448x1024_S1x4x8448x1024_S1x4x8448x1024_S1x4x8448x1024_S4x4x8448x1024_d0 i : S4x4x8448x1024.Idx → EReal) bitsLt_bf16_f32 (ix4 2 b R d)) (O (ix4 0 b R d)) ∧
    @Eq EReal (truncf (F := Ideal) .bf16 (fun i => concatenate S4x4x8448x1024 0
        [⟨S1x4x8448x1024, A⟩, ⟨S1x4x8448x1024, B⟩, ⟨S1x4x8448x1024, O⟩, ⟨S1x4x8448x1024, Z⟩]
         concatenates_S1x4x8448x1024_S1x4x8448x1024_S1x4x8448x1024_S1x4x8448x1024_S4x4x8448x1024_d0 i : S4x4x8448x1024.Idx → EReal) bitsLt_bf16_f32 (ix4 3 b R d)) (Z (ix4 0 b R d)) := by
  constructor <;> pointwise

/-- The stack's last two slots are the two gate projections. -/
theorem v7_apply (O Z : S4x8448x1024.Idx → EReal) (hO : m ((c : Thread nD τ).loc main_arg0) = O) (hZ : m ((c : Thread nD τ).loc main_arg1) = Z) (b : Fin 4) (R : Fin 8448) (d : Fin 1024) :
    @Eq EReal (V m c main_v7 (ix4 2 b R d)) (O (ix3 b R d)) ∧ @Eq EReal (V m c main_v7 (ix4 3 b R d)) (Z (ix3 b R d)) := by
  subst hO hZ
  have e : V m c main_v7 = after (hostOps0.drop 8) (after (hostOps0.take 8) (fun r => m (c, r))) (Proc.devRef .tc main_v7) := by
    rw [← StableHlo.after_append]
    rfl
  rw [e, stack_tail]
  refine ⟨(stack_apply _ _ _ _ b R d).1.trans ?_, (stack_apply _ _ _ _ b R d).2.trans ?_⟩ <;>
  · simp only [hostOps0, List.take_succ_cons, List.take_zero]
    after_reads_simp
    pointwise

/-- Both directions' outputs, heads side by side. -/
theorem v9_apply (A : S4x8448x4x256.Idx → EReal) (hA : m ((c : Thread nD τ).loc main_arg2) = A) (b : Fin 4) (R : Fin 8448) (d : Fin 1024) :
    @Eq EReal (V m c main_v9 (ix3 b R d)) (A (ix4 b R ⟨d.val / 256, by omega⟩ ⟨d.val % 256, by omega⟩)) := by
  subst hA
  simp only [V, hostOps0]
  after_reads_simp
  pointwise

theorem v11_apply (A : S4x8448x4x256.Idx → EReal) (hA : m ((c : Thread nD τ).loc main_arg3) = A) (b : Fin 4) (R : Fin 8448) (d : Fin 1024) :
    @Eq EReal (V m c main_v11 (ix3 b R d)) (A (ix4 b R ⟨d.val / 256, by omega⟩ ⟨d.val % 256, by omega⟩)) := by
  subst hA
  simp only [V, hostOps0]
  after_reads_simp
  pointwise

theorem v4_apply (X : S4x8448x1024.Idx → EReal) (hX : m ((c : Thread nD τ).loc main_arg4) = X) (i : S4x8448x1024.Idx) : @Eq EReal (V m c main_arg4 i) (X i) := by
  subst hX
  simp only [V, hostOps0]
  after_reads_simp

/-- The latents' gate is the last third of the first of an example's two rows. -/
theorem v12_apply (A : S4x2x3072.Idx → EReal) (hA : m ((c : Thread nD τ).loc main_arg5) = A) (b : Fin 4) (k : Fin 1024) :
    @Eq EReal (V m c main_v12 (ix3 ⟨2 * b.val, by omega⟩ 2 k)) (A (ix3 b 0 ⟨2048 + k.val, by omega⟩)) := by
  subst hA
  simp only [V, hostOps0]
  after_reads_simp
  pointwise
  refine congrArg _ (funext fun a => ?_)
  fin_cases a <;> exact Fin.ext (by dsimp [ix3] <;> omega)

theorem v13_apply (A : S1024x1024.Idx → EReal) (hA : m ((c : Thread nD τ).loc main_arg6) = A) (d k : Fin 1024) : @Eq EReal (V m c main_v13 (ix2 d k)) (A (ix2 d k)) := by
  subst hA
  simp only [V, hostOps0]
  after_reads_simp
  pointwise

theorem v14_apply (A : S1024.Idx → EReal) (hA : m ((c : Thread nD τ).loc main_arg7) = A) (k : Fin 1024) : @Eq EReal (V m c main_v14 (ix2 0 k)) (A (ix1 k)) := by
  subst hA
  simp only [V, hostOps0]
  after_reads_simp
  pointwise

theorem v15_apply (A : S1024.Idx → EReal) (hA : m ((c : Thread nD τ).loc main_arg8) = A) (k : Fin 1024) : @Eq EReal (V m c main_v15 (ix2 0 k)) (A (ix1 k)) := by
  subst hA
  simp only [V, hostOps0]
  after_reads_simp
  pointwise

end Cert.Kernel2Ideal.Merge
-- ==== Proof.MergeRef.lean ====
/- What the merge's reference computes, row by row. -/
module

public import proofs.«01_k».proof.Proof.Rows
public import proofs.«01_k».proof.Proof.Gen.Reference2Ideal.Read
public import Idealize.ShloMosaic.Lib.Pointwise

@[expose] public section

set_option maxRecDepth 16384

noncomputable section
namespace Cert.Reference2Ideal.Merge
open Cert.Reference2Ideal Cert.Reference2Ideal.Gen Cert.Reference2Ideal.Read Idealize.ShloMosaic Idealize.ShloMosaic.TcCoe Idealize.SL.Sem Cert.Rows
variable (O Z : S4x8448x1024.Idx → EReal) (A B : S4x8448x4x256.Idx → EReal) (X : S4x8448x1024.Idx → EReal) (M : S4x2x3072.Idx → EReal) (W : S1024x1024.Idx → EReal) (G H : S1024.Idx → EReal)

/-- The logistic function of a gate, a quotient. -/
theorem v17_apply (b : Fin 4) (R : Fin 8192) (d : Fin 1024) : @Eq EReal (val_main_v17 (F := Ideal) O (ix3 b R d)) (lgst (O (ix3 b ⟨R.val, by omega⟩ d))) := by
  show _ = Ideal.div 1 (1 + Ideal.exp (-O (ix3 b ⟨R.val, by omega⟩ d)))
  unfold val_main_v17 val_main_v16 val_main_cst_0 val_main_v15 val_main_v14 val_main_cst val_main_v13 val_main_v12 val_main_v0
  pointwise

theorem v20_apply (b : Fin 4) (R : Fin 8192) (d : Fin 1024) : @Eq EReal (val_main_v20 (F := Ideal) O Z A B (ix3 b R d))
    (gated (O (ix3 b ⟨R.val, by omega⟩ d)) (Z (ix3 b ⟨R.val, by omega⟩ d)) (A (ix4 b ⟨R.val, by omega⟩ ⟨d.val / 256, by omega⟩ ⟨d.val % 256, by omega⟩))
      (B (ix4 b ⟨R.val, by omega⟩ ⟨d.val / 256, by omega⟩ ⟨d.val % 256, by omega⟩))) := by
  have e : @Eq EReal (val_main_call0_v5 (F := Ideal) Z (ix3 b R d)) (lgst (Z (ix3 b ⟨R.val, by omega⟩ d))) := v17_apply Z b R d
  show @Eq EReal (val_main_v17 (F := Ideal) O (ix3 b R d) * val_main_v11 (F := Ideal) A B (ix3 b R d) * (val_main_v1 (F := Ideal) Z (ix3 b R d) * val_main_call0_v5 (F := Ideal) Z (ix3 b R d))) _
  rw [v17_apply, e]
  unfold gated val_main_v11 val_main_v10 val_main_v2 val_main_v3 val_main_v1
  congr 2
  · pointwise
  · pointwise

/-- The residual row. -/
def res (b : Fin 4) (R : Fin 8192) (k : Fin 1024) : EReal :=
  Ideal.ofBits .f32 0x3FB504F3#32 * X (ix3 b ⟨R.val, by omega⟩ k) + M (ix3 b 0 ⟨2048 + k.val, by omega⟩) *
    ∑ d : Fin 1024, gated (O (ix3 b ⟨R.val, by omega⟩ d)) (Z (ix3 b ⟨R.val, by omega⟩ d)) (A (ix4 b ⟨R.val, by omega⟩ ⟨d.val / 256, by omega⟩ ⟨d.val % 256, by omega⟩))
      (B (ix4 b ⟨R.val, by omega⟩ ⟨d.val / 256, by omega⟩ ⟨d.val % 256, by omega⟩)) * W (ix2 d k)

theorem v21_apply (b : Fin 4) (R : Fin 8192) (k : Fin 1024) : @Eq EReal (val_main_v21 (F := Ideal) O Z A B W (ix3 b R k))
    (∑ d : Fin 1024, val_main_v20 (F := Ideal) O Z A B (ix3 b R d) * W (ix2 d k)) := by
  unfold val_main_v21
  generalize val_main_v20 (F := Ideal) O Z A B = Y
  pointwise

theorem v27_apply (b : Fin 4) (R : Fin 8192) (k : Fin 1024) : @Eq EReal (val_main_v27 (F := Ideal) O Z A B X M W (ix3 b R k)) (res O Z A B X M W b R k) := by
  have h := v21_apply O Z A B W b R k
  simp only [v20_apply] at h
  unfold res
  rw [← h]
  unfold val_main_v27 val_main_v26 val_main_v25 val_main_v24 val_main_v23 val_main_v22 val_main_cst_1 val_main_v9 val_main_v6 val_main_v5 val_main_v4
  generalize val_main_v21 (F := Ideal) O Z A B W = Y
  pointwise

theorem v31_apply (b : Fin 4) (R : Fin 8192) : @Eq EReal (val_main_v31 (F := Ideal) O Z A B X M W (ix3 b R 0)) (mean (fun j => val_main_v27 (F := Ideal) O Z A B X M W (ix3 b R j))) := by
  unfold val_main_v31 val_main_v29 val_main_v28 val_main_v30 val_main_cst_2 val_main_cst_3 mean
  generalize val_main_v27 (F := Ideal) O Z A B X M W = Y
  pointwise

theorem v38_apply (b : Fin 4) (R : Fin 8192) : @Eq EReal (val_main_v38 (F := Ideal) O Z A B X M W (ix3 b R 0)) (mean (fun j => val_main_v34 (F := Ideal) O Z A B X M W (ix3 b R j))) := by
  unfold val_main_v38 val_main_v36 val_main_v35 val_main_v37 val_main_cst_4 val_main_cst_5 mean
  generalize val_main_v34 (F := Ideal) O Z A B X M W = Y
  pointwise

theorem v34_apply (b : Fin 4) (R : Fin 8192) (j : Fin 1024) : @Eq EReal (val_main_v34 (F := Ideal) O Z A B X M W (ix3 b R j))
    ((val_main_v27 (F := Ideal) O Z A B X M W (ix3 b R j) - val_main_v31 (F := Ideal) O Z A B X M W (ix3 b R 0)) *
      (val_main_v27 (F := Ideal) O Z A B X M W (ix3 b R j) - val_main_v31 (F := Ideal) O Z A B X M W (ix3 b R 0))) := by
  unfold val_main_v34 val_main_v33 val_main_v32
  generalize val_main_v27 (F := Ideal) O Z A B X M W = Y
  generalize val_main_v31 (F := Ideal) O Z A B X M W = N
  pointwise

theorem v51_apply (b : Fin 4) (R : Fin 8192) (j : Fin 1024) : @Eq EReal (val_main_v51 (F := Ideal) O Z A B X M W G H (ix3 b R j))
    ((val_main_v27 (F := Ideal) O Z A B X M W (ix3 b R j) - val_main_v31 (F := Ideal) O Z A B X M W (ix3 b R 0)) *
      Ideal.rsqrt (val_main_v38 (F := Ideal) O Z A B X M W (ix3 b R 0) + Ideal.ofBits .f32 0x358637BD#32) * G (ix1 j) + H (ix1 j)) := by
  unfold val_main_v51 val_main_v50 val_main_v49 val_main_v48 val_main_v47 val_main_v46 val_main_v45 val_main_v44 val_main_v43 val_main_v42 val_main_v41 val_main_cst_6 val_main_v40 val_main_v39
  generalize val_main_v27 (F := Ideal) O Z A B X M W = Y
  generalize val_main_v31 (F := Ideal) O Z A B X M W = N
  generalize val_main_v38 (F := Ideal) O Z A B X M W = D
  pointwise

/-- The reference's result at a row and channel. -/
theorem reference_apply (b : Fin 4) (R : Fin 8192) (j : Fin 1024) : @Eq EReal (val_main_v51 (F := Ideal) O Z A B X M W G H (ix3 b R j))
    (mrg (fun d => O (ix3 b ⟨R.val, by omega⟩ d)) (fun d => Z (ix3 b ⟨R.val, by omega⟩ d))
      (fun d => A (ix4 b ⟨R.val, by omega⟩ ⟨d.val / 256, by omega⟩ ⟨d.val % 256, by omega⟩)) (fun d => B (ix4 b ⟨R.val, by omega⟩ ⟨d.val / 256, by omega⟩ ⟨d.val % 256, by omega⟩))
      (fun k => X (ix3 b ⟨R.val, by omega⟩ k)) (fun k => M (ix3 b 0 ⟨2048 + k.val, by omega⟩)) (fun d k => W (ix2 d k)) (fun k => G (ix1 k)) (fun k => H (ix1 k)) j) := by
  rw [v51_apply, v38_apply]
  simp only [v34_apply]
  rw [v31_apply]
  simp only [v27_apply]
  rfl

end Cert.Reference2Ideal.Merge
-- ==== Proof.ProjBody.lean ====
/- What one step of the projection computes from its blocks. -/
module

public import proofs.«01_k».proof.Proof.Rows
public import proofs.«01_k».proof.Proof.Gen.Kernel3Ideal.Value
public import Idealize.ShloMosaic.Lib.Pipeline.ValueKit

@[expose] public section

set_option maxRecDepth 16384

noncomputable section
namespace Cert.Kernel3Ideal.Proj
open Cert.Kernel3Ideal Cert.Kernel3Ideal.Gen Idealize.ShloMosaic Idealize.ShloMosaic.TcCoe Idealize.SL.Sem Cert.Rows

/-- The normalised rows, scaled and shifted. -/
theorem pay2_apply (v0 : Vec Ideal S1x128x1024 .f32) (v18 v24 : Vec Ideal S1x1x1024 .f32) (a : Fin 128) (d : Fin 1024) :
    @Eq EReal (k0_pay2 (F := Ideal) v0 v18 v24 (ix2 a d)) (hrow (fun k => v0 (ix3 0 a k)) (fun k => v18 (ix3 0 0 k)) (fun k => v24 (ix3 0 0 k)) d) := by
  unfold k0_pay2 hrow nrm mean
  pointwise

/-- Their product with a third of the weights. -/
theorem pay4_apply (v28 : FVec Ideal S128x1024 .bf16) (v36 : Vec Ideal S1024x1024 .bf16) (a : Fin 128) (j : Fin 1024) :
    @Eq EReal (k0_pay4 (F := Ideal) v28 v36 (ix4 0 0 a j)) (∑ d : Fin 1024, v28 (ix2 a d) * v36 (ix2 d j)) := by
  unfold k0_pay4
  pointwise

/-- The keys, scaled and transposed. -/
theorem pay7_apply (v28 : FVec Ideal S128x1024 .bf16) (v57 : Vec Ideal S1024x1024 .bf16) (a : Fin 128) (j : Fin 1024) :
    @Eq EReal (k0_pay8 (F := Ideal) (k0_pay7 (F := Ideal) v28 v57) (ix4 0 0 j a)) ((∑ d : Fin 1024, v28 (ix2 a d) * v57 (ix2 d j)) * Ideal.ofBits .f32 0x3D800000#32) := by
  unfold k0_pay8 k0_pay7
  pointwise

/-- The forget gates' columns: the second four of every eight. -/
theorem forget : ∀ r : Fin 16, (IntOp.cmpi CmpIPredicate.sge
        (Scalar.select
          (IntOp.andi
            (IntOp.xori
              (IntOp.cmpi CmpIPredicate.slt
                (IntOp.remsi ArithUnit.vector (BitVec.ofNat 32 r.val)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (IntOp.cmpi CmpIPredicate.ne
              (IntOp.remsi ArithUnit.vector (BitVec.ofNat 32 r.val)
                (Scalar.select (Scalar.cmpi CmpIPredicate.eq 8#32 0#32) 1#32 8#32))
              0#32))
          (IntOp.addi
            (IntOp.remsi ArithUnit.vector (BitVec.ofNat 32 r.val)
              (Scalar.select (Scalar.cmpi CmpIPredicate.eq 8#32 0#32) 1#32 8#32))
            (Scalar.select (Scalar.cmpi CmpIPredicate.eq 8#32 0#32) 1#32 8#32))
          (IntOp.remsi ArithUnit.vector (BitVec.ofNat 32 r.val)
            (Scalar.select (Scalar.cmpi CmpIPredicate.eq 8#32 0#32) 1#32 8#32)))
        4#32) = if 4 ≤ r.val % 8 then 1#1 else 0#1 := by
  decide

/-- The gates: every second group of four through the logarithm of the logistic function. -/
theorem pay9_apply (v28 : FVec Ideal S128x1024 .bf16) (v67 : Vec Ideal S1024x128 .bf16) (v70 : Vec Ideal S1x128 .f32) (r : Fin 16) (a : Fin 128) :
    @Eq EReal (k0_pay10 (F := Ideal) (k0_pay9 (F := Ideal) v28 v67 v70) (ix3 0 r a))
      (if 4 ≤ r.val % 8 then lsig ((∑ d : Fin 1024, v28 (ix2 a d) * v67 (ix2 d ⟨r.val, by omega⟩)) + v70 (ix2 0 ⟨r.val, by omega⟩))
        else (∑ d : Fin 1024, v28 (ix2 a d) * v67 (ix2 d ⟨r.val, by omega⟩)) + v70 (ix2 0 ⟨r.val, by omega⟩)) := by
  unfold k0_pay10 k0_pay9
  pointwise
  generalize (∑ x : Fin 1024, v28 (ix2 a x) * v67 (ix2 x _)) + v70 (ix2 0 _) = g
  rw [forget r]
  split_ifs
  · rfl
  · rfl

/-- Both halves of a tile are written by the same operations. -/
theorem same (v0 : Vec Ideal S1x128x1024 .f32) (v18 v24 : Vec Ideal S1x1x1024 .f32) (v28 : FVec Ideal S128x1024 .bf16) (w : Vec Ideal S1024x1024 .bf16)
    (v67 : Vec Ideal S1024x128 .bf16) (v70 : Vec Ideal S1x128 .f32) :
    k0_pay11 (F := Ideal) v0 v18 v24 = k0_pay2 (F := Ideal) v0 v18 v24 ∧
    k0_pay3 (F := Ideal) v0 v18 v24 w = k0_pay4 (F := Ideal) (k0_pay2 (F := Ideal) v0 v18 v24) w ∧
    k0_pay13 (F := Ideal) (k0_pay12 (F := Ideal) v0 v18 v24 w) = k0_pay4 (F := Ideal) (k0_pay2 (F := Ideal) v0 v18 v24) w ∧
    k0_pay5 (F := Ideal) v28 w = k0_pay4 (F := Ideal) v28 w ∧ k0_pay6 (F := Ideal) v28 w = k0_pay4 (F := Ideal) v28 w ∧
    k0_pay14 (F := Ideal) v28 w = k0_pay4 (F := Ideal) v28 w ∧ k0_pay15 (F := Ideal) v28 w = k0_pay4 (F := Ideal) v28 w ∧
    k0_pay16 (F := Ideal) v28 w = k0_pay4 (F := Ideal) v28 w ∧
    k0_pay18 (F := Ideal) (k0_pay17 (F := Ideal) v28 w) = k0_pay8 (F := Ideal) (k0_pay7 (F := Ideal) v28 w) ∧
    k0_pay1 (F := Ideal) (k0_pay19 (F := Ideal) v28 v67 v70) = k0_pay10 (F := Ideal) (k0_pay9 (F := Ideal) v28 v67 v70) :=
  ⟨rfl, rfl, rfl, rfl, rfl, rfl, rfl, rfl, rfl, rfl⟩

end Cert.Kernel3Ideal.Proj
-- ==== Proof.ProjOut.lean ====
/- What one step of the projection leaves in its three output blocks. -/
module

public import proofs.«01_k».proof.Proof.ProjBody
public import Idealize.ShloMosaic.Lib.Pipeline.ValueKit

@[expose] public section

set_option maxRecDepth 16384

noncomputable section
namespace Cert.Kernel3Ideal.Proj
open Cert.Kernel3Ideal Cert.Kernel3Ideal.Gen Idealize.ShloMosaic Idealize.ShloMosaic.TcCoe Idealize.SL.Sem Cert.Rows
variable (x0 : Vec Ideal S1x256x1024 .f32) (x1 : Vec Ideal S1x3x1024 .f32) (x2 : Vec Ideal S1024x5120 .bf16) (x3 : Vec Ideal S1024x128 .bf16) (x4 : Vec Ideal S1x128 .f32)

/-- A row of the tile, normalised, scaled and shifted. -/
def hh (a : Fin 256) (d : Fin 1024) : EReal := hrow (fun k => x0 (ix3 0 a k)) (fun k => x1 (ix3 0 1 k)) (fun k => x1 (ix3 0 0 k)) d

theorem lo_apply (a : Fin 128) (d : Fin 1024) (A : Fin 256) (hA : A.val = a.val) :
    @Eq EReal (k0_pay20 (F := Ideal) x0 x1 x2 x3 x4 (ix2 a d)) (hh x0 x1 A d) := by
  unfold k0_pay20 hh
  refine (pay2_apply _ _ _ a d).trans ?_
  have e0 : ∀ k, View.ld x0 r0_0 (ix3 0 a k) = x0 (ix3 0 A k) := fun k => View.ld_unit_apply_of _ _ _ _ _ _ fun b => by
    fin_cases b
    · rfl
    · exact hA.trans (Nat.zero_add _).symm
    · exact (Nat.zero_add _).symm
  have e1 : ∀ k, View.ld x1 r0_1 (ix3 0 0 k) = x1 (ix3 0 1 k) := fun k => View.ld_unit_apply_of _ _ _ _ _ _ fun b => by
    fin_cases b
    · rfl
    · rfl
    · exact (Nat.zero_add _).symm
  have e2 : ∀ k, View.ld x1 r0_2 (ix3 0 0 k) = x1 (ix3 0 0 k) := fun k => View.ld_unit_apply_of _ _ _ _ _ _ fun b => by
    fin_cases b
    · rfl
    · rfl
    · exact (Nat.zero_add _).symm
  simp only [e0, e1, e2]

theorem hi_apply (a : Fin 128) (d : Fin 1024) (A : Fin 256) (hA : A.val = 128 + a.val) :
    @Eq EReal (k0_pay21 (F := Ideal) x0 x1 x2 x3 x4 (ix2 a d)) (hh x0 x1 A d) := by
  unfold k0_pay21 hh
  rw [(same _ _ _ (fun _ => (0 : EReal)) (fun _ => (0 : EReal)) (fun _ => (0 : EReal)) (fun _ => (0 : EReal))).1]
  refine (pay2_apply _ _ _ a d).trans ?_
  have e0 : ∀ k, View.ld x0 r0_16 (ix3 0 a k) = x0 (ix3 0 A k) := fun k => View.ld_unit_apply_of _ _ _ _ _ _ fun b => by
    fin_cases b
    · rfl
    · exact hA
    · exact (Nat.zero_add _).symm
  have e1 : ∀ k, View.ld x1 r0_1 (ix3 0 0 k) = x1 (ix3 0 1 k) := fun k => View.ld_unit_apply_of _ _ _ _ _ _ fun b => by
    fin_cases b
    · rfl
    · rfl
    · exact (Nat.zero_add _).symm
  have e2 : ∀ k, View.ld x1 r0_2 (ix3 0 0 k) = x1 (ix3 0 0 k) := fun k => View.ld_unit_apply_of _ _ _ _ _ _ fun b => by
    fin_cases b
    · rfl
    · rfl
    · exact (Nat.zero_add _).symm
  simp only [e0, e1, e2]

/-- Which of the five groups of columns each slot of the stack holds: queries, values and both gates, not the keys. -/
def grp (s : Fin 4) : ℕ := if s.val = 0 then 0 else s.val + 1

theorem grp_lt (s : Fin 4) : grp s < 5 := by unfold grp; split_ifs <;> omega

/-- A slot's entry. -/
def yv (s : Fin 4) (a : Fin 256) (j : Fin 1024) : EReal :=
  ∑ d : Fin 1024, hh x0 x1 a d * x2 (ix2 d ⟨1024 * grp s + j.val, by have := grp_lt s; omega⟩)

/-- A scaled key's entry. -/
def kv (a : Fin 256) (j : Fin 1024) : EReal :=
  (∑ d : Fin 1024, hh x0 x1 a d * x2 (ix2 d ⟨1024 + j.val, by omega⟩)) * Ideal.ofBits .f32 0x3D800000#32

/-- A gate before the logarithm. -/
def gv (a : Fin 256) (r : Fin 16) : EReal := (∑ d : Fin 1024, hh x0 x1 a d * x3 (ix2 d ⟨r.val, by omega⟩)) + x4 (ix2 0 ⟨r.val, by omega⟩)

/-- A gate. -/
def gate (r : Fin 16) (g : EReal) : EReal := if 4 ≤ r.val % 8 then lsig g else g

theorem y_piece (v28 : FVec Ideal S128x1024 .bf16) (A : Fin 256) (a : Fin 128) (hv : ∀ d, @Eq EReal (v28 (ix2 a d)) (hh x0 x1 A d)) (s : Fin 4) (o : ℕ) (ho : o = 1024 * grp s) (inb) (j : Fin 1024) :
    @Eq EReal (k0_pay4 (F := Ideal) v28 (View.ld x2 (Rect.unit (s := S1024x5120) ![0, o] S1024x1024.size inb)) (ix4 0 0 a j)) (yv x0 x1 x2 s A j) := by
  subst ho
  refine (pay4_apply _ _ a j).trans (Finset.sum_congr rfl fun d _ => ?_)
  rw [hv d]
  refine congrArg (hh x0 x1 A d * ·) (View.ld_unit_apply_of _ _ _ _ _ _ fun b => ?_)
  fin_cases b
  · exact (Nat.zero_add _).symm
  · rfl

theorem k_piece (v28 : FVec Ideal S128x1024 .bf16) (A : Fin 256) (a : Fin 128) (hv : ∀ d, @Eq EReal (v28 (ix2 a d)) (hh x0 x1 A d)) (j : Fin 1024) :
    @Eq EReal (k0_pay8 (F := Ideal) (k0_pay7 (F := Ideal) v28 (View.ld x2 r0_11)) (ix4 0 0 j a)) (kv x0 x1 x2 A j) := by
  refine (pay7_apply _ _ a j).trans (congrArg (· * _) (Finset.sum_congr rfl fun d _ => ?_))
  rw [hv d]
  refine congrArg (hh x0 x1 A d * ·) (View.ld_unit_apply_of _ _ _ _ _ _ fun b => ?_)
  fin_cases b
  · exact (Nat.zero_add _).symm
  · rfl

theorem g_piece (v28 : FVec Ideal S128x1024 .bf16) (A : Fin 256) (a : Fin 128) (hv : ∀ d, @Eq EReal (v28 (ix2 a d)) (hh x0 x1 A d)) (r : Fin 16) :
    @Eq EReal (k0_pay10 (F := Ideal) (k0_pay9 (F := Ideal) v28 (View.ld x3 r0_13) (View.ld x4 r0_14)) (ix3 0 r a)) (gate r (gv x0 x1 x3 x4 A r)) := by
  refine (pay9_apply _ _ _ r a).trans ?_
  have e : ∀ d, View.ld x3 r0_13 (ix2 d (⟨r.val, by omega⟩ : Fin 128)) = x3 (ix2 d ⟨r.val, by omega⟩) := fun d => View.ld_unit_apply_of _ _ _ _ _ _ fun b => by
    fin_cases b <;> exact (Nat.zero_add _).symm
  have e' : View.ld x4 r0_14 (ix2 0 (⟨r.val, by omega⟩ : Fin 128)) = x4 (ix2 0 ⟨r.val, by omega⟩) := View.ld_unit_apply_of _ _ _ _ _ _ fun b => by
    fin_cases b <;> exact (Nat.zero_add _).symm
  unfold gate gv
  simp only [e, e', hv]

theorem idx4 (x : S1x1x128x1024.Idx) : ∃ (a : Fin 128) (j : Fin 1024), x = ix4 0 0 a j := by
  refine ⟨x 2, x 3, funext fun k => ?_⟩
  have h0 : (x 0).val < 1 := (x 0).isLt
  have h1 : (x 1).val < 1 := (x 1).isLt
  fin_cases k
  · exact Fin.ext (by show (x 0).val = 0; omega)
  · exact Fin.ext (by show (x 1).val = 0; omega)
  · rfl
  · rfl

/-- The stack's block. -/
theorem out5_apply (s : Fin 4) (A : Fin 256) (j : Fin 1024) : @Eq EReal (out0_5 (F := Ideal) x0 x1 x2 x3 x4 (ix4 s 0 A j)) (yv x0 x1 x2 s A j) := by
  have S := fun v0 v18 v24 v28 w => same v0 v18 v24 v28 w (fun _ => (0 : EReal)) (fun _ => (0 : EReal))
  unfold out0_5
  refine View.canon_apply_of_pieces (show S4x1x256x1024.Idx → Elt Ideal .bf16 from fun y => yv x0 x1 x2 (y 0) (y 2) (y 3)) _ ?_ (ix4 s 0 A j) (cover0_5 _ _ _ _ _ _ _ _ _)
  have key : ∀ (p : View.Piece (Elt Ideal) S4x1x256x1024 .bf16) (s : Fin 4) (o : ℕ) (inb) (v28 : FVec Ideal S128x1024 .bf16) (oc : ℕ) (inb'),
      (∀ (a : Fin 128) (A : Fin 256) d, A.val = o + a.val → @Eq EReal (v28 (ix2 a d)) (hh x0 x1 A d)) → oc = 1024 * grp s →
      p = ⟨Rect.unit (s := S4x1x256x1024) ![s.val, 0, o, 0] S1x1x128x1024.size inb, k0_pay4 (F := Ideal) v28 (View.ld x2 (Rect.unit (s := S1024x5120) ![0, oc] S1024x1024.size inb'))⟩ →
      ∀ x : p.1.shape.Idx, p.2 x = (fun y : S4x1x256x1024.Idx => yv x0 x1 x2 (y 0) (y 2) (y 3)) (p.1.emb x) := by
    intro p s o inb v28 oc inb' hv hoc hp x
    subst hp
    obtain ⟨a, j, rfl⟩ := idx4 x
    have ho : o + 128 ≤ 256 := inb 2
    refine (y_piece x0 x1 x2 v28 ⟨o + a.val, by omega⟩ a (fun d => hv a _ d rfl) s oc hoc inb' j).trans ?_
    refine congr (congr (congrArg (yv x0 x1 x2) (Fin.ext ?_)) (Fin.ext ?_)) (Fin.ext ?_) <;> simp [Rect.emb, Rect.unit]
  have L := fun (a : Fin 128) (A : Fin 256) d (h : A.val = 0 + a.val) => lo_apply x0 x1 x2 x3 x4 a d A (h.trans (Nat.zero_add _))
  have H := fun (a : Fin 128) (A : Fin 256) d (h : A.val = 128 + a.val) => hi_apply x0 x1 x2 x3 x4 a d A h
  refine List.forall_mem_cons.mpr ⟨key _ 3 128 _ _ 4096 _ H rfl rfl, List.forall_mem_cons.mpr ⟨key _ 2 128 _ _ 3072 _ H rfl rfl,
    List.forall_mem_cons.mpr ⟨key _ 1 128 _ _ 2048 _ H rfl rfl, List.forall_mem_cons.mpr ⟨key _ 0 128 _ _ 0 _ H rfl rfl,
    List.forall_mem_cons.mpr ⟨key _ 3 0 _ _ 4096 _ L rfl rfl, List.forall_mem_cons.mpr ⟨key _ 2 0 _ _ 3072 _ L rfl rfl,
    List.forall_mem_cons.mpr ⟨key _ 1 0 _ _ 2048 _ L rfl rfl, List.forall_mem_cons.mpr ⟨key _ 0 0 _ _ 0 _ L rfl rfl, fun p hp => absurd hp List.not_mem_nil⟩⟩⟩⟩⟩⟩⟩⟩

/-- The keys' block. -/
theorem out6_apply (q : Fin 2) (j : Fin 1024) (a : Fin 128) : @Eq EReal (out0_6 (F := Ideal) x0 x1 x2 x3 x4 (ix4 0 q j a)) (kv x0 x1 x2 ⟨128 * q.val + a.val, by omega⟩ j) := by
  unfold out0_6
  have key : ∀ (p : View.Piece (Elt Ideal) S1x2x1024x128 .bf16) (q : Fin 2) (inb) (v28 : FVec Ideal S128x1024 .bf16),
      (∀ (a : Fin 128) (A : Fin 256) d, A.val = 128 * q.val + a.val → @Eq EReal (v28 (ix2 a d)) (hh x0 x1 A d)) →
      p = ⟨Rect.unit (s := S1x2x1024x128) ![0, q.val, 0, 0] S1x1x1024x128.size inb, k0_pay8 (F := Ideal) (k0_pay7 (F := Ideal) v28 (View.ld x2 r0_11))⟩ →
      ∀ x : p.1.shape.Idx, p.2 x = (fun y : S1x2x1024x128.Idx => kv x0 x1 x2 ⟨128 * (show Fin 2 from y 1).val + (show Fin 128 from y 3).val, by omega⟩ (y 2)) (p.1.emb x) := by
    intro p q inb v28 hv hp x
    subst hp
    obtain ⟨j, a, rfl⟩ : ∃ (j : Fin 1024) (a : Fin 128), x = ix4 0 0 j a := by
      refine ⟨x 2, x 3, funext fun k => ?_⟩
      have h0 : (x 0).val < 1 := (x 0).isLt
      have h1 : (x 1).val < 1 := (x 1).isLt
      fin_cases k
      · exact Fin.ext (by show (x 0).val = 0; omega)
      · exact Fin.ext (by show (x 1).val = 0; omega)
      · rfl
      · rfl
    refine (k_piece x0 x1 x2 v28 ⟨128 * q.val + a.val, by omega⟩ a (fun d => hv a _ d rfl) j).trans ?_
    refine congr (congrArg (kv x0 x1 x2) (Fin.ext ?_)) (Fin.ext ?_) <;> simp [Rect.emb, Rect.unit]
  refine View.canon_apply_of_pieces (show S1x2x1024x128.Idx → Elt Ideal .bf16 from fun y => kv x0 x1 x2 ⟨128 * (show Fin 2 from y 1).val + (show Fin 128 from y 3).val, by omega⟩ (y 2)) _ ?_ (ix4 0 q j a) (cover0_6 _ _ _)
  refine List.forall_mem_cons.mpr ⟨key _ 1 _ _ (fun a A d h => hi_apply x0 x1 x2 x3 x4 a d A h) rfl, List.forall_mem_cons.mpr
    ⟨key _ 0 _ _ (fun a A d h => lo_apply x0 x1 x2 x3 x4 a d A (h.trans (Nat.zero_add _))) rfl, fun p hp => absurd hp List.not_mem_nil⟩⟩

/-- The gates' block. -/
theorem out7_apply (r : Fin 16) (A : Fin 256) : @Eq EReal (out0_7 (F := Ideal) x0 x1 x2 x3 x4 (ix3 0 r A)) (gate r (gv x0 x1 x3 x4 A r)) := by
  unfold out0_7
  have key : ∀ (p : View.Piece (Elt Ideal) S1x16x256 .f32) (o : ℕ) (inb) (v28 : FVec Ideal S128x1024 .bf16),
      (∀ (a : Fin 128) (A : Fin 256) d, A.val = o + a.val → @Eq EReal (v28 (ix2 a d)) (hh x0 x1 A d)) →
      p = ⟨Rect.unit (s := S1x16x256) ![0, 0, o] S1x16x128.size inb, k0_pay10 (F := Ideal) (k0_pay9 (F := Ideal) v28 (View.ld x3 r0_13) (View.ld x4 r0_14))⟩ →
      ∀ x : p.1.shape.Idx, p.2 x = (fun y : S1x16x256.Idx => gate (y 1) (gv x0 x1 x3 x4 (y 2) (y 1))) (p.1.emb x) := by
    intro p o inb v28 hv hp x
    subst hp
    obtain ⟨r, a, rfl⟩ : ∃ (r : Fin 16) (a : Fin 128), x = ix3 0 r a := by
      refine ⟨x 1, x 2, funext fun k => ?_⟩
      have h0 : (x 0).val < 1 := (x 0).isLt
      fin_cases k
      · exact Fin.ext (by show (x 0).val = 0; omega)
      · rfl
      · rfl
    have ho : o + 128 ≤ 256 := inb 2
    refine (g_piece x0 x1 x3 x4 v28 ⟨o + a.val, by omega⟩ a (fun d => hv a _ d rfl) r).trans ?_
    refine congr (congrArg gate (Fin.ext ?_)) (congr (congrArg (gv x0 x1 x3 x4) (Fin.ext ?_)) (Fin.ext ?_)) <;> simp [Rect.emb, Rect.unit]
  refine View.canon_apply_of_pieces (show S1x16x256.Idx → Elt Ideal .f32 from fun y => gate (y 1) (gv x0 x1 x3 x4 (y 2) (y 1))) _ ?_ (ix3 0 r A) (cover0_7 _ _ _)
  refine List.forall_mem_cons.mpr ⟨key _ 128 _ _ (fun a A d h => hi_apply x0 x1 x2 x3 x4 a d A h) rfl, List.forall_mem_cons.mpr
    ⟨key _ 0 _ _ (fun a A d h => lo_apply x0 x1 x2 x3 x4 a d A (h.trans (Nat.zero_add _))) rfl, fun p hp => absurd hp List.not_mem_nil⟩⟩

end Cert.Kernel3Ideal.Proj
-- ==== Proof.ProjBlocks.lean ====
/- The projection's three result arrays from the arrays it is launched on. -/
module

public import proofs.«01_k».proof.Proof.ProjOut
public import proofs.«01_k».proof.Proof.Gen.Kernel3Ideal.Value

@[expose] public section

set_option maxRecDepth 16384

noncomputable section
namespace Cert.Kernel3Ideal.Proj
open Cert.Kernel3Ideal Cert.Kernel3Ideal.Gen Idealize.ShloMosaic Idealize.ShloMosaic.TcCoe Idealize.SL.Sem Cert.Rows
open Idealize.ShloMosaic.Pipeline (Dat)
variable (m : (ℓ : Loc nD τ sig) → Buf (Elt Ideal) ℓ)

/-- The blocks' indices at every grid point. -/
theorem idx : ∀ t : Fin cfg0.N, win0_0.index t = ![(grid0.coords t 0).val, (grid0.coords t 1).val, 0] ∧
    win0_1.index t = ![2 * (grid0.coords t 0).val + (grid0.coords t 1).val / 32, 0, 0] ∧
    win0_2.index t = ![0, 0] ∧ win0_3.index t = ![0, 0] ∧ win0_4.index t = ![0, 0] ∧
    win0_5.index t = ![0, (grid0.coords t 0).val, (grid0.coords t 1).val, 0] ∧
    win0_6.index t = ![(grid0.coords t 0).val, (grid0.coords t 1).val, 0, 0] ∧
    win0_7.index t = ![(grid0.coords t 0).val, 0, (grid0.coords t 1).val] := by
  decide +kernel

theorem rd0 (c : Dev nD) (t : Fin cfg0.N) (b : Fin 4) (ti : Fin 33) (hb : (grid0.coords t 0).val = b.val) (hi : (grid0.coords t 1).val = ti.val) (a : Fin 256) (x : Fin 1024) (R : Fin 8448) (hR : R.val = 256 * ti.val + a.val) :
    iblk m c 0 t (ix3 0 a x) = V m c main_arg0 (ix3 b R x) := by
  unfold iblk
  rw [View.read_apply]
  refine congrArg (V m c main_arg0) (funext fun d => Fin.ext ?_)
  refine (Pipeline.Window.rect_emb_val win0_0 t (ix3 0 a x) d).trans ?_
  rw [(idx t).1]
  fin_cases d
  · show (grid0.coords t 0).val * 1 + 0 = b.val
    omega
  · show (grid0.coords t 1).val * 256 + a.val = R.val
    omega
  · exact Nat.zero_add _

theorem rd1 (c : Dev nD) (t : Fin cfg0.N) (b : Fin 4) (ti : Fin 33) (hb : (grid0.coords t 0).val = b.val) (hi : (grid0.coords t 1).val = ti.val) (a : Fin 3) (x : Fin 1024) :
    iblk m c 1 t (ix3 0 a x) = V m c main_v5 (ix3 ⟨2 * b.val + ti.val / 32, by omega⟩ a x) := by
  unfold iblk
  rw [View.read_apply]
  refine congrArg (V m c main_v5) (funext fun d => Fin.ext ?_)
  refine (Pipeline.Window.rect_emb_val win0_1 t (ix3 0 a x) d).trans ?_
  rw [(idx t).2.1]
  fin_cases d
  · show (2 * (grid0.coords t 0).val + (grid0.coords t 1).val / 32) * 1 + 0 = 2 * b.val + ti.val / 32
    omega
  · exact Nat.zero_add _
  · exact Nat.zero_add _

theorem rd2 (c : Dev nD) (t : Fin cfg0.N) (a : Fin 1024) (x : Fin 5120) :
    iblk m c 2 t (ix2 a x) = V m c main_v7 (ix2 a x) := by
  unfold iblk
  rw [View.read_apply]
  refine congrArg (V m c main_v7) (funext fun d => Fin.ext ?_)
  refine (Pipeline.Window.rect_emb_val win0_2 t (ix2 a x) d).trans ?_
  rw [(idx t).2.2.1]
  fin_cases d
  · exact Nat.zero_add _
  · exact Nat.zero_add _

theorem rd3 (c : Dev nD) (t : Fin cfg0.N) (a : Fin 1024) (x : Fin 128) :
    iblk m c 3 t (ix2 a x) = V m c main_v2 (ix2 a x) := by
  unfold iblk
  rw [View.read_apply]
  refine congrArg (V m c main_v2) (funext fun d => Fin.ext ?_)
  refine (Pipeline.Window.rect_emb_val win0_3 t (ix2 a x) d).trans ?_
  rw [(idx t).2.2.2.1]
  fin_cases d
  · exact Nat.zero_add _
  · exact Nat.zero_add _

theorem rd4 (c : Dev nD) (t : Fin cfg0.N) (a : Fin 1) (x : Fin 128) :
    iblk m c 4 t (ix2 a x) = V m c main_v4 (ix2 a x) := by
  unfold iblk
  rw [View.read_apply]
  refine congrArg (V m c main_v4) (funext fun d => Fin.ext ?_)
  refine (Pipeline.Window.rect_emb_val win0_4 t (ix2 a x) d).trans ?_
  rw [(idx t).2.2.2.2.1]
  fin_cases d
  · exact Nat.zero_add _
  · exact Nat.zero_add _

theorem rd5 (c : Dev nD) (X : Buf (Elt Ideal) ((c : Thread nD τ).loc (Pipeline.arrRef spec0 5))) (t : Fin cfg0.N) (b : Fin 4) (ti : Fin 33) (hb : (grid0.coords t 0).val = b.val) (hi : (grid0.coords t 1).val = ti.val) (s : Fin 4) (a : Fin 256) (x : Fin 1024) (R : Fin 8448) (hR : R.val = 256 * ti.val + a.val) :
    ((cfg0.win 5).blk t).view.read (Elt Ideal) X (ix4 s 0 a x) = X (ix4 s b R x) := by
  rw [View.read_apply]
  refine congrArg X (funext fun d => Fin.ext ?_)
  refine (Pipeline.Window.rect_emb_val win0_5 t (ix4 s 0 a x) d).trans ?_
  rw [(idx t).2.2.2.2.2.1]
  fin_cases d
  · exact Nat.zero_add _
  · show (grid0.coords t 0).val * 1 + 0 = b.val
    omega
  · show (grid0.coords t 1).val * 256 + a.val = R.val
    omega
  · exact Nat.zero_add _

theorem rd6 (c : Dev nD) (X : Buf (Elt Ideal) ((c : Thread nD τ).loc (Pipeline.arrRef spec0 6))) (t : Fin cfg0.N) (b : Fin 4) (ti : Fin 33) (hb : (grid0.coords t 0).val = b.val) (hi : (grid0.coords t 1).val = ti.val) (q : Fin 2) (j : Fin 1024) (a : Fin 128) (Q : Fin 66) (hQ : Q.val = 2 * ti.val + q.val) :
    ((cfg0.win 6).blk t).view.read (Elt Ideal) X (ix4 0 q j a) = X (ix4 b Q j a) := by
  rw [View.read_apply]
  refine congrArg X (funext fun d => Fin.ext ?_)
  refine (Pipeline.Window.rect_emb_val win0_6 t (ix4 0 q j a) d).trans ?_
  rw [(idx t).2.2.2.2.2.2.1]
  fin_cases d
  · show (grid0.coords t 0).val * 1 + 0 = b.val
    omega
  · show (grid0.coords t 1).val * 2 + q.val = Q.val
    omega
  · exact Nat.zero_add _
  · exact Nat.zero_add _

theorem rd7 (c : Dev nD) (X : Buf (Elt Ideal) ((c : Thread nD τ).loc (Pipeline.arrRef spec0 7))) (t : Fin cfg0.N) (b : Fin 4) (ti : Fin 33) (hb : (grid0.coords t 0).val = b.val) (hi : (grid0.coords t 1).val = ti.val) (r : Fin 16) (a : Fin 256) (R : Fin 8448) (hR : R.val = 256 * ti.val + a.val) :
    ((cfg0.win 7).blk t).view.read (Elt Ideal) X (ix3 0 r a) = X (ix3 b r R) := by
  rw [View.read_apply]
  refine congrArg X (funext fun d => Fin.ext ?_)
  refine (Pipeline.Window.rect_emb_val win0_7 t (ix3 0 r a) d).trans ?_
  rw [(idx t).2.2.2.2.2.2.2]
  fin_cases d
  · show (grid0.coords t 0).val * 1 + 0 = b.val
    omega
  · exact Nat.zero_add _
  · show (grid0.coords t 1).val * 256 + a.val = R.val
    omega

/-- The grid's points: example by example, 33 blocks of rows each. -/
theorem pts : ∀ (b : Fin 4) (i : Fin 33), ∃ t : Fin cfg0.N, (grid0.coords t 0).val = b.val ∧ (grid0.coords t 1).val = i.val ∧
    (cfg0.win 5).flush t = true ∧ (cfg0.win 6).flush t = true ∧ (cfg0.win 7).flush t = true := by
  decide +kernel

/-- A row of the residual stream, normalised, scaled and shifted by the numbers of its part of the sequence. -/
def row (c : Dev nD) (b : Fin 4) (R : Fin 8448) (d : Fin 1024) : EReal :=
  hrow (fun k => V m c main_arg0 (ix3 b R k)) (fun k => V m c main_v5 (ix3 ⟨2 * b.val + R.val / 8192, by omega⟩ 1 k))
    (fun k => V m c main_v5 (ix3 ⟨2 * b.val + R.val / 8192, by omega⟩ 0 k)) d

theorem hh_row (c : Dev nD) (t : Fin cfg0.N) (b : Fin 4) (ti : Fin 33) (hb : (grid0.coords t 0).val = b.val) (hi : (grid0.coords t 1).val = ti.val) (a : Fin 256) (R : Fin 8448) (hR : R.val = 256 * ti.val + a.val) (d : Fin 1024) :
    hh (iblk m c 0 t) (iblk m c 1 t) a d = row m c b R d := by
  unfold hh row
  have e : (⟨2 * b.val + ti.val / 32, by omega⟩ : Fin 8) = ⟨2 * b.val + R.val / 8192, by omega⟩ := Fin.ext (by show 2 * b.val + ti.val / 32 = 2 * b.val + R.val / 8192; omega)
  simp only [rd0 m c t b ti hb hi a _ R hR, rd1 m c t b ti hb hi, e]

/-- The stack at a slot, row and channel. -/
theorem y_apply (c : Dev nD) (s : Fin 4) (b : Fin 4) (R : Fin 8448) (j : Fin 1024) :
    @Eq EReal ((dats m 0 c).arrAt 5 cfg0.N (ix4 s b R j))
      (∑ d : Fin 1024, row m c b R d * V m c main_v7 (ix2 d ⟨1024 * grp s + j.val, by have := grp_lt s; omega⟩)) := by
  obtain ⟨t, hb, hi, hf, -, -⟩ := pts b ⟨R.val / 256, by omega⟩
  have hR : R.val = 256 * (⟨R.val / 256, by omega⟩ : Fin 33).val + (⟨R.val % 256, by omega⟩ : Fin 256).val := by
    show R.val = 256 * (R.val / 256) + R.val % 256
    omega
  have e := congrFun (Value.blocks5 m c t hf) (ix4 s 0 ⟨R.val % 256, by omega⟩ j)
  have e1 := rd5 c ((dats m 0 c).arrAt 5 cfg0.N) t b _ hb hi s ⟨R.val % 256, by omega⟩ j R hR
  refine e1.symm.trans (e.trans ?_)
  rw [Value.flushed5]
  refine Eq.trans ?_ ((out5_apply (iblk m c 0 t) (iblk m c 1 t) (iblk m c 2 t) (iblk m c 3 t) (iblk m c 4 t) s ⟨R.val % 256, by omega⟩ j).trans ?_)
  · rfl
  · unfold yv
    simp only [hh_row m c t b _ hb hi _ R hR, rd2]

/-- The scaled keys, channels down the columns, in chunks of 128 rows. -/
theorem kt_apply (c : Dev nD) (b : Fin 4) (Q : Fin 66) (j : Fin 1024) (a : Fin 128) :
    @Eq EReal ((dats m 0 c).arrAt 6 cfg0.N (ix4 b Q j a))
      ((∑ d : Fin 1024, row m c b ⟨128 * Q.val + a.val, by omega⟩ d * V m c main_v7 (ix2 d ⟨1024 + j.val, by omega⟩)) * Ideal.ofBits .f32 0x3D800000#32) := by
  obtain ⟨t, hb, hi, -, hf, -⟩ := pts b ⟨Q.val / 2, by omega⟩
  have hQ : Q.val = 2 * (⟨Q.val / 2, by omega⟩ : Fin 33).val + (⟨Q.val % 2, by omega⟩ : Fin 2).val := by
    show Q.val = 2 * (Q.val / 2) + Q.val % 2
    omega
  have hR : (⟨128 * Q.val + a.val, by omega⟩ : Fin 8448).val = 256 * (⟨Q.val / 2, by omega⟩ : Fin 33).val + (⟨128 * (Q.val % 2) + a.val, by omega⟩ : Fin 256).val := by
    show 128 * Q.val + a.val = 256 * (Q.val / 2) + (128 * (Q.val % 2) + a.val)
    omega
  have e := congrFun (Value.blocks6 m c t hf) (ix4 0 ⟨Q.val % 2, by omega⟩ j a)
  have e1 := rd6 c ((dats m 0 c).arrAt 6 cfg0.N) t b _ hb hi ⟨Q.val % 2, by omega⟩ j a Q hQ
  refine e1.symm.trans (e.trans ?_)
  rw [Value.flushed6]
  refine Eq.trans ?_ ((out6_apply (iblk m c 0 t) (iblk m c 1 t) (iblk m c 2 t) (iblk m c 3 t) (iblk m c 4 t) ⟨Q.val % 2, by omega⟩ j a).trans ?_)
  · rfl
  · unfold kv
    simp only [hh_row m c t b _ hb hi _ _ hR, rd2]

/-- The gates, rows along the lanes. -/
theorem g_apply (c : Dev nD) (b : Fin 4) (r : Fin 16) (R : Fin 8448) :
    @Eq EReal ((dats m 0 c).arrAt 7 cfg0.N (ix3 b r R))
      (gate r ((∑ d : Fin 1024, row m c b R d * V m c main_v2 (ix2 d ⟨r.val, by omega⟩)) + V m c main_v4 (ix2 0 ⟨r.val, by omega⟩))) := by
  obtain ⟨t, hb, hi, -, -, hf⟩ := pts b ⟨R.val / 256, by omega⟩
  have hR : R.val = 256 * (⟨R.val / 256, by omega⟩ : Fin 33).val + (⟨R.val % 256, by omega⟩ : Fin 256).val := by
    show R.val = 256 * (R.val / 256) + R.val % 256
    omega
  have e := congrFun (Value.blocks7 m c t hf) (ix3 0 r ⟨R.val % 256, by omega⟩)
  have e1 := rd7 c ((dats m 0 c).arrAt 7 cfg0.N) t b _ hb hi r ⟨R.val % 256, by omega⟩ R hR
  refine e1.symm.trans (e.trans ?_)
  rw [Value.flushed7]
  refine Eq.trans ?_ ((out7_apply (iblk m c 0 t) (iblk m c 1 t) (iblk m c 2 t) (iblk m c 3 t) (iblk m c 4 t) r ⟨R.val % 256, by omega⟩).trans ?_)
  · rfl
  · unfold gv
    simp only [hh_row m c t b _ hb hi _ R hR, rd3, rd4]

end Cert.Kernel3Ideal.Proj
-- ==== Proof.ProjHost.lean ====
/- The arrays the projection is launched on, read at an index from the arguments. -/
module

public import proofs.«01_k».proof.Proof.Gen.Kernel3Ideal.Value
public import Idealize.ShloMosaic.Lib.Pointwise
public import Idealize.ShloMosaic.Lib.KernelVsHost
public import Idealize.ShloMosaic.Lib.Claim
public import Idealize.ShloMosaic.Lib.StableHlo.RunRead

@[expose] public section

set_option maxRecDepth 16384

noncomputable section
namespace Cert.Kernel3Ideal.Proj
open Cert.Kernel3Ideal Cert.Kernel3Ideal.Gen Idealize.ShloMosaic Idealize.ShloMosaic.TcCoe Idealize.SL.Sem
open Idealize.ShloMosaic.StableHlo
variable (m : (ℓ : Loc nD τ sig) → Buf (Elt Ideal) ℓ) (c : Dev nD)

theorem arg0_apply (X : S4x8448x1024.Idx → EReal) (hX : m ((c : Thread nD τ).loc main_arg0) = X) (i : S4x8448x1024.Idx) : @Eq EReal (V m c main_arg0 i) (X i) := by
  subst hX
  simp only [V, hostOps0, hostOps0_1, hostOps0_2, hostOps0_3, hostOps0_4, List.flatten_cons, List.flatten_nil, List.append_nil, List.cons_append, List.nil_append]
  after_reads_simp

/-- An example's shift, scale and gate, one row each; an example has the latents' three and then the context's. -/
theorem v5_apply (A : S4x2x3072.Idx → EReal) (hA : m ((c : Thread nD τ).loc main_arg1) = A) (b : Fin 4) (e : Fin 2) (a : Fin 3) (k : Fin 1024) :
    @Eq EReal (V m c main_v5 (ix3 ⟨2 * b.val + e.val, by omega⟩ a k)) (A (ix3 b e ⟨1024 * a.val + k.val, by omega⟩)) := by
  subst hA
  simp only [V, hostOps0, hostOps0_1, hostOps0_2, hostOps0_3, hostOps0_4, List.flatten_cons, List.flatten_nil, List.append_nil, List.cons_append, List.nil_append]
  after_reads_simp
  pointwise
  refine congrArg _ (funext fun a => ?_)
  fin_cases a <;> exact Fin.ext (by dsimp [ix3] <;> omega)

theorem v7_apply (A : S1024x5136.Idx → EReal) (hA : m ((c : Thread nD τ).loc main_arg2) = A) (d : Fin 1024) (j : Fin 5120) :
    @Eq EReal (V m c main_v7 (ix2 d j)) (A (ix2 d ⟨j.val, by omega⟩)) := by
  subst hA
  simp only [V, hostOps0, hostOps0_1, hostOps0_2, hostOps0_3, hostOps0_4, List.flatten_cons, List.flatten_nil, List.append_nil, List.cons_append, List.nil_append]
  after_reads_simp
  pointwise

/-- The gates' columns: the first 16 of the padded array. -/
theorem v2_apply (A : S1024x5136.Idx → EReal) (hA : m ((c : Thread nD τ).loc main_arg2) = A) (d : Fin 1024) (r : Fin 16) :
    @Eq EReal (V m c main_v2 (ix2 d ⟨r.val, by omega⟩)) (A (ix2 d ⟨5120 + r.val, by omega⟩)) := by
  subst hA
  simp only [V, hostOps0, hostOps0_1, hostOps0_2, hostOps0_3, hostOps0_4, List.flatten_cons, List.flatten_nil, List.append_nil, List.cons_append, List.nil_append]
  after_reads_simp
  show @Eq EReal (pad S1024x128 ![0, 0] ![0, 112] ![0, 0] (extractStridedSlice S1024x16 ![0, 5120] (m (c, Proc.tc.devRef main_arg2)) slices_S1024x5136_S1024x16_0_5120)
    (sitofp (F := Ideal) FTy.f32 (constantI S_ 32 0#32)) pads_S1024x16_S1024x128_000_01120 h_S_ (ix2 d ⟨r.val, by omega⟩)) _
  refine (pad_apply_of_inside _ _ _ _ _ _ _ _ (ix2 d r) (fun a => ?_)).trans ?_
  · fin_cases a <;> simp [ix2]
  · pointwise

theorem v4_apply (A : S16.Idx → EReal) (hA : m ((c : Thread nD τ).loc main_arg3) = A) (r : Fin 16) :
    @Eq EReal (V m c main_v4 (ix2 0 ⟨r.val, by omega⟩)) (A (ix1 r)) := by
  subst hA
  simp only [V, hostOps0, hostOps0_1, hostOps0_2, hostOps0_3, hostOps0_4, List.flatten_cons, List.flatten_nil, List.append_nil, List.cons_append, List.nil_append]
  after_reads_simp
  pointwise
  show @Eq EReal (pad S128 ![0] ![112] ![0] (m (c, Proc.tc.devRef main_arg3))
    (sitofp (F := Ideal) FTy.f32 (constantI S_ 32 0#32)) pads_S16_S128_01120 h_S_ (ix1 ⟨r.val, by omega⟩)) _
  refine (pad_apply_of_inside _ _ _ _ _ _ _ _ (ix1 r) (fun a => ?_)).trans ?_
  · fin_cases a <;> simp [ix1]
  · rfl

end Cert.Kernel3Ideal.Proj
-- ==== Proof.ProjRef.lean ====
/- What the projection's reference computes, row by row. -/
module

public import proofs.«01_k».proof.Proof.Rows
public import proofs.«01_k».proof.Proof.Gen.Reference3Ideal.Read
public import Idealize.ShloMosaic.Lib.Pointwise

@[expose] public section

set_option maxRecDepth 16384

noncomputable section
namespace Cert.Reference3Ideal.Proj
open Cert.Reference3Ideal Cert.Reference3Ideal.Gen Cert.Reference3Ideal.Read Idealize.ShloMosaic Idealize.ShloMosaic.TcCoe Idealize.SL.Sem Cert.Rows
variable (X : S4x8448x1024.Idx → EReal) (M : S4x2x3072.Idx → EReal) (W : S1024x5136.Idx → EReal) (B : S16.Idx → EReal)

/-- The logarithm of the logistic function as the reference writes it, minus the softplus of minus the gate. -/
theorem lsig_eq (g : EReal) : -(max (-g) 0 + Ideal.log1p (Ideal.exp (-(max (-g - 0) (-(-g - 0)))))) = lsig g := by
  unfold lsig
  have h0 : -g - 0 = -g := sub_zero _
  rw [h0, neg_neg, max_comm (-g) g, zero_sub]
  have hm : -(max (-g) 0) = min g 0 := by
    rcases le_total g 0 with h | h
    · rw [max_eq_left (EReal.neg_nonneg.mpr h), min_eq_left h, neg_neg]
    · rw [max_eq_right (EReal.neg_le.mpr (by simpa using h)), min_eq_right h, neg_zero]
  have hb : max (-g) 0 ≠ ⊥ := fun h => absurd (le_max_right (-g) 0) (by rw [h]; simp)
  by_cases hg : g = ⊥
  · subst hg
    have e0 : Ideal.log1p (Ideal.exp (-(max ⊥ (-⊥)))) = 0 := by
      have e1 : Ideal.exp (-(max ⊥ (-⊥))) = 0 := by
        rw [EReal.neg_bot, max_eq_right bot_le, EReal.neg_top]
        rfl
      rw [e1]
      show Ideal.log (1 + 0) = 0
      rw [add_zero]
      show (if (1 : ℝ) ≤ 0 then (⊥ : EReal) else (Real.log 1 : EReal)) = 0
      rw [if_neg (by norm_num), Real.log_one]
      rfl
    rw [e0, add_zero, hm, sub_zero]
  · have ht : max (-g) 0 ≠ ⊤ := by
      intro h
      rcases max_choice (-g) 0 with e | e <;> rw [e] at h
      · exact hg (EReal.neg_eq_top_iff.mp h)
      · exact EReal.zero_ne_top h
    rw [EReal.neg_add (Or.inl hb) (Or.inl ht), hm]

theorem v3_apply (b : Fin 4) (R : Fin 8448) : @Eq EReal (val_main_v3 (F := Ideal) X (ix3 b R 0)) (mean (fun k => X (ix3 b R k))) := by
  unfold val_main_v3 val_main_v1 val_main_v0 val_main_v2 val_main_cst val_main_cst_0 mean
  pointwise

theorem v6_apply (b : Fin 4) (R : Fin 8448) (k : Fin 1024) : @Eq EReal (val_main_v6 (F := Ideal) X (ix3 b R k))
    ((X (ix3 b R k) - val_main_v3 (F := Ideal) X (ix3 b R 0)) * (X (ix3 b R k) - val_main_v3 (F := Ideal) X (ix3 b R 0))) := by
  unfold val_main_v6 val_main_v5 val_main_v4
  generalize val_main_v3 (F := Ideal) X = N
  pointwise

theorem v10_apply (b : Fin 4) (R : Fin 8448) : @Eq EReal (val_main_v10 (F := Ideal) X (ix3 b R 0)) (mean (fun k => val_main_v6 (F := Ideal) X (ix3 b R k))) := by
  unfold val_main_v10 val_main_v8 val_main_v7 val_main_v9 val_main_cst_1 val_main_cst_2 mean
  generalize val_main_v6 (F := Ideal) X = N
  pointwise

theorem v24_apply (b : Fin 4) (R : Fin 8448) (d : Fin 1024) : @Eq EReal (val_main_v24 (F := Ideal) X (ix3 b R d)) (nrm (fun k => X (ix3 b R k)) d) := by
  have e : @Eq EReal (val_main_v24 (F := Ideal) X (ix3 b R d)) ((X (ix3 b R d) - val_main_v3 (F := Ideal) X (ix3 b R 0)) *
      Ideal.rsqrt (val_main_v10 (F := Ideal) X (ix3 b R 0) + Ideal.ofBits .f32 0x358637BD#32)) := by
    unfold val_main_v24 val_main_v23 val_main_v22 val_main_v21 val_main_v20 val_main_cst_3 val_main_v19 val_main_v18
    generalize val_main_v3 (F := Ideal) X = N
    generalize val_main_v10 (F := Ideal) X = D
    pointwise
  rw [e, v10_apply]
  simp only [v6_apply, v3_apply]
  rfl

/-- Rows from 8192 on are the context's. -/
theorem v17_apply (R : Fin 8448) : val_main_v17 (F := Ideal) (ix3 0 R 0) = if 8192 ≤ R.val then 1#1 else 0#1 := by
  show IntOp.cmpi .sge (BitVec.ofNat 32 R.val) 8192#32 = _
  have hR := R.isLt
  have h1 : (BitVec.ofNat 32 R.val).toInt = R.val := by
    rw [BitVec.toInt_ofNat']
    exact Int.bmod_eq_of_le (by omega) (by omega)
  have h2 : (8192#32).toInt = 8192 := by decide
  simp only [IntOp.cmpi, BitVec.sle, h1, h2]
  by_cases h : 8192 ≤ R.val
  · have h' : (8192 : Int) ≤ (R.val : Int) := by omega
    simp [h, h']
  · have h' : ¬ (8192 : Int) ≤ (R.val : Int) := by omega
    simp [h, h']

/-- The number each row is scaled by. -/
theorem v27_apply (b : Fin 4) (R : Fin 8448) (d : Fin 1024) : @Eq EReal (val_main_v27 (F := Ideal) M (ix3 b R d)) (M (ix3 b ⟨R.val / 8192, by omega⟩ ⟨1024 + d.val, by omega⟩)) := by
  have e : @Eq EReal (val_main_v27 (F := Ideal) M (ix3 b R d)) (Scalar.select (val_main_v17 (F := Ideal) (ix3 0 R 0)) (M (ix3 b 1 ⟨1024 + d.val, by omega⟩)) (M (ix3 b 0 ⟨1024 + d.val, by omega⟩))) := by
    unfold val_main_v27 val_main_call0_v0 val_main_call0_v1 val_main_call0_v2 val_main_v25 val_main_v26 val_main_v12
    generalize val_main_v17 (F := Ideal) = N
    pointwise
  rw [e, v17_apply]
  by_cases h : 8192 ≤ R.val
  · have h' : (⟨R.val / 8192, by omega⟩ : Fin 2) = 1 := Fin.ext (by show R.val / 8192 = 1; omega)
    rw [if_pos h, h']
    rfl
  · have h' : (⟨R.val / 8192, by omega⟩ : Fin 2) = 0 := Fin.ext (by show R.val / 8192 = 0; omega)
    rw [if_neg h, h']
    rfl

/-- And the number added to it. -/
theorem v33_apply (b : Fin 4) (R : Fin 8448) (d : Fin 1024) : @Eq EReal (val_main_v33 (F := Ideal) M (ix3 b R d)) (M (ix3 b ⟨R.val / 8192, by omega⟩ ⟨d.val, by omega⟩)) := by
  have e : @Eq EReal (val_main_v33 (F := Ideal) M (ix3 b R d)) (Scalar.select (val_main_v17 (F := Ideal) (ix3 0 R 0)) (M (ix3 b 1 ⟨d.val, by omega⟩)) (M (ix3 b 0 ⟨d.val, by omega⟩))) := by
    unfold val_main_v33 val_main_call1_v0 val_main_call1_v1 val_main_call1_v2 val_main_v31 val_main_v32 val_main_v11
    generalize val_main_v17 (F := Ideal) = N
    pointwise
  rw [e, v17_apply]
  by_cases h : 8192 ≤ R.val
  · have h' : (⟨R.val / 8192, by omega⟩ : Fin 2) = 1 := Fin.ext (by show R.val / 8192 = 1; omega)
    rw [if_pos h, h']
    rfl
  · have h' : (⟨R.val / 8192, by omega⟩ : Fin 2) = 0 := Fin.ext (by show R.val / 8192 = 0; omega)
    rw [if_neg h, h']
    rfl

/-- A row of the residual stream, normalised, scaled and shifted. -/
def row (b : Fin 4) (R : Fin 8448) (d : Fin 1024) : EReal :=
  hrow (fun k => X (ix3 b R k)) (fun k => M (ix3 b ⟨R.val / 8192, by omega⟩ ⟨1024 + k.val, by omega⟩)) (fun k => M (ix3 b ⟨R.val / 8192, by omega⟩ ⟨k.val, by omega⟩)) d

theorem v34_apply (b : Fin 4) (R : Fin 8448) (d : Fin 1024) : @Eq EReal (val_main_v34 (F := Ideal) X M (ix3 b R d)) (row X M b R d) := by
  show @Eq EReal (val_main_v24 (F := Ideal) X (ix3 b R d) * (Ideal.ofBits .f32 0x3F800000#32 + val_main_v27 (F := Ideal) M (ix3 b R d)) + val_main_v33 (F := Ideal) M (ix3 b R d)) _
  rw [v24_apply, v27_apply, v33_apply]
  rfl

theorem v35_apply (b : Fin 4) (R : Fin 8448) (j : Fin 5136) : @Eq EReal (val_main_v35 (F := Ideal) X M W (ix3 b R j)) (∑ d : Fin 1024, row X M b R d * W (ix2 d j)) := by
  have e : @Eq EReal (val_main_v35 (F := Ideal) X M W (ix3 b R j)) (∑ d : Fin 1024, val_main_v34 (F := Ideal) X M (ix3 b R d) * W (ix2 d j)) := by
    unfold val_main_v35
    generalize val_main_v34 (F := Ideal) X M = Y
    pointwise
  rw [e]
  simp only [v34_apply]

/-- The stack: queries, values and the two gate projections. -/
theorem v68_apply (b : Fin 4) (R : Fin 8448) (j : Fin 1024) :
    @Eq EReal (val_main_v68 (F := Ideal) X M W (ix4 0 b R j)) (val_main_v35 (F := Ideal) X M W (ix3 b R ⟨j.val, by omega⟩)) ∧
    @Eq EReal (val_main_v68 (F := Ideal) X M W (ix4 1 b R j)) (val_main_v35 (F := Ideal) X M W (ix3 b R ⟨2048 + j.val, by omega⟩)) ∧
    @Eq EReal (val_main_v68 (F := Ideal) X M W (ix4 2 b R j)) (val_main_v35 (F := Ideal) X M W (ix3 b R ⟨3072 + j.val, by omega⟩)) ∧
    @Eq EReal (val_main_v68 (F := Ideal) X M W (ix4 3 b R j)) (val_main_v35 (F := Ideal) X M W (ix3 b R ⟨4096 + j.val, by omega⟩)) := by
  unfold val_main_v68 val_main_v67 val_main_v63 val_main_v64 val_main_v65 val_main_v66 val_main_v36 val_main_v38 val_main_v39 val_main_v40
  generalize val_main_v35 (F := Ideal) X M W = Y
  refine ⟨?_, ?_, ?_, ?_⟩ <;> pointwise

/-- The scaled keys, in chunks of 128 rows. -/
theorem v71_apply (b : Fin 4) (Q : Fin 66) (j : Fin 1024) (a : Fin 128) :
    @Eq EReal (val_main_v71 (F := Ideal) X M W (ix4 b Q j a)) (val_main_v35 (F := Ideal) X M W (ix3 b ⟨128 * Q.val + a.val, by omega⟩ ⟨1024 + j.val, by omega⟩) * Ideal.ofBits .f32 0x3D800000#32) := by
  have e : @Eq EReal (val_main_v71 (F := Ideal) X M W (ix4 b Q j a)) (val_main_v43 (F := Ideal) X M W (ix3 b ⟨128 * Q.val + a.val, by omega⟩ j)) := by
    unfold val_main_v71 val_main_v70 val_main_v69
    generalize val_main_v43 (F := Ideal) X M W = Y
    pointwise
    refine congrArg Y (funext fun k => ?_)
    fin_cases k <;> exact Fin.ext (by dsimp [ix3] <;> omega)
  rw [e]
  unfold val_main_v43 val_main_v42 val_main_cst_5 val_main_v37
  generalize val_main_v35 (F := Ideal) X M W = Y
  pointwise

theorem v46_apply (b : Fin 4) (R : Fin 8448) (r : Fin 16) : @Eq EReal (val_main_v46 (F := Ideal) X M W B (ix3 b R r)) (val_main_v35 (F := Ideal) X M W (ix3 b R ⟨5120 + r.val, by omega⟩) + B (ix1 r)) := by
  unfold val_main_v46 val_main_v41 val_main_v45 val_main_v44
  generalize val_main_v35 (F := Ideal) X M W = Y
  pointwise

theorem v52_apply (b : Fin 4) (R : Fin 8448) (h : Fin 4) : @Eq EReal (val_main_v52 (F := Ideal) X M W B (ix3 b R h)) (lsig (val_main_v46 (F := Ideal) X M W B (ix3 b R ⟨4 + h.val, by omega⟩))) := by
  rw [← lsig_eq]
  have e : @Eq EReal (val_main_v51 (F := Ideal) X M W B (ix3 b R h)) (val_main_v46 (F := Ideal) X M W B (ix3 b R ⟨4 + h.val, by omega⟩)) := by
    unfold val_main_v51 val_main_v50 val_main_v47
    generalize val_main_v46 (F := Ideal) X M W B = Y
    pointwise
  rw [← e]
  unfold val_main_v52 val_main_call2_v1 val_main_call2_call0_v11 val_main_call2_call0_v10 val_main_call2_call0_v9 val_main_call2_call0_v8 val_main_call2_call0_v7 val_main_call2_call0_v6 val_main_call2_call0_v5 val_main_call2_call0_v4 val_main_call2_call0_v3 val_main_call2_call0_v2 val_main_call2_call0_v1 val_main_call2_call0_v0 val_main_call2_call0_cst val_main_call2_v0
  generalize val_main_v51 (F := Ideal) X M W B = Y
  pointwise
  rw [if_neg (fun h => h rfl)]
  rfl

theorem v57_apply (b : Fin 4) (R : Fin 8448) (h : Fin 4) : @Eq EReal (val_main_v57 (F := Ideal) X M W B (ix3 b R h)) (lsig (val_main_v46 (F := Ideal) X M W B (ix3 b R ⟨12 + h.val, by omega⟩))) := by
  rw [← lsig_eq]
  have e : @Eq EReal (val_main_v56 (F := Ideal) X M W B (ix3 b R h)) (val_main_v46 (F := Ideal) X M W B (ix3 b R ⟨12 + h.val, by omega⟩)) := by
    unfold val_main_v56 val_main_v55 val_main_v47
    generalize val_main_v46 (F := Ideal) X M W B = Y
    pointwise
  rw [← e]
  unfold val_main_v57 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_call0_cst val_main_call3_v0
  generalize val_main_v56 (F := Ideal) X M W B = Y
  pointwise
  rw [if_neg (fun h => h rfl)]
  rfl

theorem v49_apply (b : Fin 4) (R : Fin 8448) (h : Fin 4) : @Eq EReal (val_main_v49 (F := Ideal) X M W B (ix3 b R h)) (val_main_v46 (F := Ideal) X M W B (ix3 b R ⟨h.val, by omega⟩)) := by
  unfold val_main_v49 val_main_v48 val_main_v47
  generalize val_main_v46 (F := Ideal) X M W B = Y
  pointwise

theorem v54_apply (b : Fin 4) (R : Fin 8448) (h : Fin 4) : @Eq EReal (val_main_v54 (F := Ideal) X M W B (ix3 b R h)) (val_main_v46 (F := Ideal) X M W B (ix3 b R ⟨8 + h.val, by omega⟩)) := by
  unfold val_main_v54 val_main_v53 val_main_v47
  generalize val_main_v46 (F := Ideal) X M W B = Y
  pointwise

/-- The gates' four groups of four heads. -/
theorem v72_apply (b : Fin 4) (R : Fin 8448) (h : Fin 4) :
    @Eq EReal (val_main_v72 (F := Ideal) X M W B (ix4 b 0 h R)) (val_main_v49 (F := Ideal) X M W B (ix3 b R h)) ∧
    @Eq EReal (val_main_v72 (F := Ideal) X M W B (ix4 b 1 h R)) (val_main_v52 (F := Ideal) X M W B (ix3 b R h)) ∧
    @Eq EReal (val_main_v72 (F := Ideal) X M W B (ix4 b 2 h R)) (val_main_v54 (F := Ideal) X M W B (ix3 b R h)) ∧
    @Eq EReal (val_main_v72 (F := Ideal) X M W B (ix4 b 3 h R)) (val_main_v57 (F := Ideal) X M W B (ix3 b R h)) := by
  unfold val_main_v72 val_main_v62 val_main_v58 val_main_v59 val_main_v60 val_main_v61
  generalize val_main_v49 (F := Ideal) X M W B = Y0
  generalize val_main_v52 (F := Ideal) X M W B = Y1
  generalize val_main_v54 (F := Ideal) X M W B = Y2
  generalize val_main_v57 (F := Ideal) X M W B = Y3
  refine ⟨?_, ?_, ?_, ?_⟩ <;> pointwise

/-- The gates, one row of the result for each group and head. -/
theorem v73_apply (b : Fin 4) (r : Fin 16) (R : Fin 8448) :
    @Eq EReal (val_main_v73 (F := Ideal) X M W B (ix3 b r R)) (val_main_v72 (F := Ideal) X M W B (ix4 b ⟨r.val / 4, by omega⟩ ⟨r.val % 4, by omega⟩ R)) := by
  unfold val_main_v73
  generalize val_main_v72 (F := Ideal) X M W B = Y
  pointwise

end Cert.Reference3Ideal.Proj
-- ==== Proof.Layer.lean ====
/- The two calls around the attention: kernel and reference write the same arrays. -/
module

public import proofs.«01_k».proof.Proof.MergeBlocks
public import proofs.«01_k».proof.Proof.MergeHost
public import proofs.«01_k».proof.Proof.MergeRef
public import proofs.«01_k».proof.Proof.ProjBlocks
public import proofs.«01_k».proof.Proof.ProjHost
public import proofs.«01_k».proof.Proof.ProjRef

@[expose] public section

set_option maxRecDepth 16384

noncomputable section
namespace Cert.Layer
open Idealize.ShloMosaic Idealize.ShloMosaic.TcCoe Idealize.SL.Sem Cert.Rows

theorem eta3 {n0 n1 n2 : ℕ} (i : (⟨3, ![n0, n1, n2]⟩ : Shape).Idx) : i = ix3 (i 0) (i 1) (i 2) := funext fun a => by
  match a with
  | ⟨0, _⟩ => rfl
  | ⟨1, _⟩ => rfl
  | ⟨2, _⟩ => rfl

theorem eta4 {n0 n1 n2 n3 : ℕ} (i : (⟨4, ![n0, n1, n2, n3]⟩ : Shape).Idx) : i = ix4 (i 0) (i 1) (i 2) (i 3) := funext fun a => by
  match a with
  | ⟨0, _⟩ => rfl
  | ⟨1, _⟩ => rfl
  | ⟨2, _⟩ => rfl
  | ⟨3, _⟩ => rfl

section merge
open Cert.Kernel2Ideal Cert.Kernel2Ideal.Gen
variable (m : (ℓ : Loc nD τ sig) → Buf (Elt Ideal) ℓ) (c : Dev nD)

theorem merge_eq : Cert.Reference2Ideal.Read.val_main_v51 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) = (dats m 0 c).arrAt 9 cfg0.N := by
  funext i
  rw [eta3 i]
  have key : ∀ (b : Fin 4) (R : Fin 8192) (j : Fin 1024), @Eq EReal (Cert.Reference2Ideal.Read.val_main_v51 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) (ix3 b R j)) ((dats m 0 c).arrAt 9 cfg0.N (ix3 b R j)) := by
    intro b R j
    refine (Cert.Reference2Ideal.Merge.reference_apply _ _ _ _ _ _ _ _ _ b R j).trans (Eq.trans ?_ (Cert.Kernel2Ideal.Merge.result_apply m c b R j).symm)
    have h0 : ∀ d : Fin 1024, @Eq EReal (V m c main_v7 (ix4 2 b ⟨R.val, by omega⟩ d)) (m (c.tc.loc main_arg0) (ix3 b ⟨R.val, by omega⟩ d)) := fun d => (Cert.Kernel2Ideal.Merge.v7_apply m c _ _ rfl rfl b _ d).1
    have h1 : ∀ d : Fin 1024, @Eq EReal (V m c main_v7 (ix4 3 b ⟨R.val, by omega⟩ d)) (m (c.tc.loc main_arg1) (ix3 b ⟨R.val, by omega⟩ d)) := fun d => (Cert.Kernel2Ideal.Merge.v7_apply m c _ _ rfl rfl b _ d).2
    have h2 : ∀ d : Fin 1024, @Eq EReal (V m c main_v9 (ix3 b ⟨R.val, by omega⟩ d)) (m (c.tc.loc main_arg2) (ix4 b ⟨R.val, by omega⟩ ⟨d.val / 256, by omega⟩ ⟨d.val % 256, by omega⟩)) := fun d => Cert.Kernel2Ideal.Merge.v9_apply m c _ rfl b _ d
    have h3 : ∀ d : Fin 1024, @Eq EReal (V m c main_v11 (ix3 b ⟨R.val, by omega⟩ d)) (m (c.tc.loc main_arg3) (ix4 b ⟨R.val, by omega⟩ ⟨d.val / 256, by omega⟩ ⟨d.val % 256, by omega⟩)) := fun d => Cert.Kernel2Ideal.Merge.v11_apply m c _ rfl b _ d
    have h4 : ∀ d : Fin 1024, @Eq EReal (V m c main_arg4 (ix3 b ⟨R.val, by omega⟩ d)) (m (c.tc.loc main_arg4) (ix3 b ⟨R.val, by omega⟩ d)) := fun d => Cert.Kernel2Ideal.Merge.v4_apply m c _ rfl _
    have h5 : ∀ d : Fin 1024, @Eq EReal (V m c main_v12 (ix3 ⟨2 * b.val, by omega⟩ 2 d)) (m (c.tc.loc main_arg5) (ix3 b 0 ⟨2048 + d.val, by omega⟩)) := fun d => Cert.Kernel2Ideal.Merge.v12_apply m c _ rfl b d
    have h6 : ∀ d k : Fin 1024, @Eq EReal (V m c main_v13 (ix2 d k)) (m (c.tc.loc main_arg6) (ix2 d k)) := fun d k => Cert.Kernel2Ideal.Merge.v13_apply m c _ rfl d k
    have h7 : ∀ d : Fin 1024, @Eq EReal (V m c main_v14 (ix2 0 d)) (m (c.tc.loc main_arg7) (ix1 d)) := fun d => Cert.Kernel2Ideal.Merge.v14_apply m c _ rfl d
    have h8 : ∀ d : Fin 1024, @Eq EReal (V m c main_v15 (ix2 0 d)) (m (c.tc.loc main_arg8) (ix1 d)) := fun d => Cert.Kernel2Ideal.Merge.v15_apply m c _ rfl d
    rw [funext h0, funext h1, funext h2, funext h3, funext h4, funext h5, funext fun d => funext (h6 d), funext h7, funext h8]
  exact key _ _ _
end merge

section projection
open Cert.Kernel3Ideal Cert.Kernel3Ideal.Gen Cert.Kernel3Ideal.Proj
variable (m : (ℓ : Loc nD τ sig) → Buf (Elt Ideal) ℓ) (c : Dev nD)

theorem row_eq (b : Fin 4) (R : Fin 8448) (d : Fin 1024) : Cert.Reference3Ideal.Proj.row (m (c.tc.loc main_arg0)) (m (c.tc.loc main_arg1)) b R d = row m c b R d := by
  have e1 : ∀ k : Fin 1024, @Eq EReal (V m c main_v5 (ix3 ⟨2 * b.val + R.val / 8192, by omega⟩ 1 k)) (m (c.tc.loc main_arg1) (ix3 b ⟨R.val / 8192, by omega⟩ ⟨1024 + k.val, by omega⟩)) :=
    fun k => v5_apply m c _ rfl b ⟨R.val / 8192, by omega⟩ 1 k
  have e0 : ∀ k : Fin 1024, @Eq EReal (V m c main_v5 (ix3 ⟨2 * b.val + R.val / 8192, by omega⟩ 0 k)) (m (c.tc.loc main_arg1) (ix3 b ⟨R.val / 8192, by omega⟩ ⟨k.val, by omega⟩)) :=
    fun k => (v5_apply m c _ rfl b ⟨R.val / 8192, by omega⟩ 0 k).trans (congrArg (fun n => m (c.tc.loc main_arg1) (ix3 b (⟨R.val / 8192, by omega⟩ : Fin 2) n)) (Fin.ext (by show 1024 * 0 + k.val = k.val; omega)))
  have ex : ∀ k : Fin 1024, @Eq EReal (V m c main_arg0 (ix3 b R k)) (m (c.tc.loc main_arg0) (ix3 b R k)) := fun k => arg0_apply m c _ rfl _
  unfold Cert.Reference3Ideal.Proj.row row
  rw [funext e0, funext e1, funext ex]

/-- A product of a row and a column of the weights. -/
theorem col_eq (b : Fin 4) (R : Fin 8448) (j : Fin 5120) (J : Fin 5136) (hJ : J.val = j.val) :
    @Eq EReal (Cert.Reference3Ideal.Read.val_main_v35 (F := Ideal) (m (c.tc.loc main_arg0)) (m (c.tc.loc main_arg1)) (m (c.tc.loc main_arg2)) (ix3 b R J))
      (∑ d : Fin 1024, row m c b R d * V m c main_v7 (ix2 d j)) := by
  refine (Cert.Reference3Ideal.Proj.v35_apply _ _ _ b R J).trans (Finset.sum_congr rfl fun d _ => ?_)
  rw [row_eq m c b R d, v7_apply m c _ rfl d j]
  exact congrArg (fun n => row m c b R d * m (c.tc.loc main_arg2) (ix2 d n)) (Fin.ext hJ)

theorem y_eq : Cert.Reference3Ideal.Read.val_main_v68 (F := Ideal) (m (c.tc.loc main_arg0)) (m (c.tc.loc main_arg1)) (m (c.tc.loc main_arg2)) = (dats m 0 c).arrAt 5 cfg0.N := by
  funext i
  rw [eta4 i]
  have key : ∀ (s : Fin 4) (b : Fin 4) (R : Fin 8448) (j : Fin 1024), @Eq EReal (Cert.Reference3Ideal.Read.val_main_v68 (F := Ideal) (m (c.tc.loc main_arg0)) (m (c.tc.loc main_arg1)) (m (c.tc.loc main_arg2)) (ix4 s b R j))
      ((dats m 0 c).arrAt 5 cfg0.N (ix4 s b R j)) := by
    intro s b R j
    refine Eq.trans ?_ (y_apply m c s b R j).symm
    obtain ⟨h0, h1, h2, h3⟩ := Cert.Reference3Ideal.Proj.v68_apply (m (c.tc.loc main_arg0)) (m (c.tc.loc main_arg1)) (m (c.tc.loc main_arg2)) b R j
    fin_cases s
    · exact h0.trans (col_eq m c b R _ _ (by show j.val = 1024 * 0 + j.val; omega))
    · exact h1.trans (col_eq m c b R _ _ rfl)
    · exact h2.trans (col_eq m c b R _ _ rfl)
    · exact h3.trans (col_eq m c b R _ _ rfl)
  exact key _ _ _ _

theorem kt_eq : Cert.Reference3Ideal.Read.val_main_v71 (F := Ideal) (m (c.tc.loc main_arg0)) (m (c.tc.loc main_arg1)) (m (c.tc.loc main_arg2)) = (dats m 0 c).arrAt 6 cfg0.N := by
  funext i
  rw [eta4 i]
  refine (Cert.Reference3Ideal.Proj.v71_apply _ _ _ (i 0) (i 1) (i 2) (i 3)).trans (Eq.trans ?_ (kt_apply m c (i 0) (i 1) (i 2) (i 3)).symm)
  exact congrArg (· * Ideal.ofBits .f32 0x3D800000#32) (col_eq m c _ _ _ _ rfl)

/-- The gates before the logarithm. -/
theorem pre_eq (b : Fin 4) (R : Fin 8448) (r : Fin 16) :
    @Eq EReal (Cert.Reference3Ideal.Read.val_main_v46 (F := Ideal) (m (c.tc.loc main_arg0)) (m (c.tc.loc main_arg1)) (m (c.tc.loc main_arg2)) (m (c.tc.loc main_arg3)) (ix3 b R r))
      ((∑ d : Fin 1024, row m c b R d * V m c main_v2 (ix2 d ⟨r.val, by omega⟩)) + V m c main_v4 (ix2 0 ⟨r.val, by omega⟩)) := by
  rw [Cert.Reference3Ideal.Proj.v46_apply, Cert.Reference3Ideal.Proj.v35_apply]
  simp only [row_eq, v2_apply m c _ rfl, v4_apply m c _ rfl]

theorem g_eq : Cert.Reference3Ideal.Read.val_main_v73 (F := Ideal) (m (c.tc.loc main_arg0)) (m (c.tc.loc main_arg1)) (m (c.tc.loc main_arg2)) (m (c.tc.loc main_arg3)) = (dats m 0 c).arrAt 7 cfg0.N := by
  funext i
  rw [eta3 i]
  have key : ∀ (b : Fin 4) (q h : Fin 4) (r : Fin 16) (R : Fin 8448) (hr : r.val = 4 * q.val + h.val), @Eq EReal (Cert.Reference3Ideal.Read.val_main_v72 (F := Ideal) (m (c.tc.loc main_arg0)) (m (c.tc.loc main_arg1)) (m (c.tc.loc main_arg2)) (m (c.tc.loc main_arg3)) (ix4 b q h R))
      ((dats m 0 c).arrAt 7 cfg0.N (ix3 b r R)) := by
    intro b q h r R hr
    refine Eq.trans ?_ (g_apply m c b r R).symm
    rw [← pre_eq m c b R r]
    obtain ⟨h0, h1, h2, h3⟩ := Cert.Reference3Ideal.Proj.v72_apply (m (c.tc.loc main_arg0)) (m (c.tc.loc main_arg1)) (m (c.tc.loc main_arg2)) (m (c.tc.loc main_arg3)) b R h
    unfold gate
    fin_cases q
    · have hr : r.val = 4 * 0 + h.val := hr
      rw [if_neg (by omega)]
      exact h0.trans ((Cert.Reference3Ideal.Proj.v49_apply _ _ _ _ b R h).trans (congrArg (fun n => Cert.Reference3Ideal.Read.val_main_v46 (F := Ideal) (m (c.tc.loc main_arg0)) (m (c.tc.loc main_arg1)) (m (c.tc.loc main_arg2)) (m (c.tc.loc main_arg3)) (ix3 b R n)) (Fin.ext (by show h.val = r.val; omega))))
    · have hr : r.val = 4 * 1 + h.val := hr
      rw [if_pos (by omega)]
      exact h1.trans ((Cert.Reference3Ideal.Proj.v52_apply _ _ _ _ b R h).trans (congrArg (fun n => lsig (Cert.Reference3Ideal.Read.val_main_v46 (F := Ideal) (m (c.tc.loc main_arg0)) (m (c.tc.loc main_arg1)) (m (c.tc.loc main_arg2)) (m (c.tc.loc main_arg3)) (ix3 b R n))) (Fin.ext (by show 4 + h.val = r.val; omega))))
    · have hr : r.val = 4 * 2 + h.val := hr
      rw [if_neg (by omega)]
      exact h2.trans ((Cert.Reference3Ideal.Proj.v54_apply _ _ _ _ b R h).trans (congrArg (fun n => Cert.Reference3Ideal.Read.val_main_v46 (F := Ideal) (m (c.tc.loc main_arg0)) (m (c.tc.loc main_arg1)) (m (c.tc.loc main_arg2)) (m (c.tc.loc main_arg3)) (ix3 b R n)) (Fin.ext (by show 8 + h.val = r.val; omega))))
    · have hr : r.val = 4 * 3 + h.val := hr
      rw [if_pos (by omega)]
      exact h3.trans ((Cert.Reference3Ideal.Proj.v57_apply _ _ _ _ b R h).trans (congrArg (fun n => lsig (Cert.Reference3Ideal.Read.val_main_v46 (F := Ideal) (m (c.tc.loc main_arg0)) (m (c.tc.loc main_arg1)) (m (c.tc.loc main_arg2)) (m (c.tc.loc main_arg3)) (ix3 b R n))) (Fin.ext (by show 12 + h.val = r.val; omega))))
  have hr : (i 1).val < 16 := (i 1).isLt
  exact (Cert.Reference3Ideal.Proj.v73_apply _ _ _ _ (i 0) (i 1) (i 2)).trans (key (i 0) ⟨(i 1).val / 4, by omega⟩ ⟨(i 1).val % 4, by omega⟩ (i 1) (i 2) (by show (i 1).val = 4 * ((i 1).val / 4) + (i 1).val % 4; omega))
end projection

end Cert.Layer
-- ==== Proof.lean ====
/- The claims: the attention, merge and projection kernels run, leave their arguments unchanged, and over the extended reals compute what
   their references do. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Ref
public import proofs.«01_k».proof.Proof.Layer
public import Idealize.ShloMosaic.Adequacy
public import Idealize.ShloMosaic.Lib.Quiescent
public import Idealize.ShloMosaic.Init

@[expose] public section

noncomputable section

namespace Cert.Proof

open Idealize.ShloMosaic Idealize.SL.Sem

/-- The reference runs and leaves its arguments unchanged; it has no semaphores. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- From finite queries, keys and gains, kernel and reference write the same averages. -/
theorem results_eq (m : (ℓ : Loc Cert.KernelIdeal.nD Cert.KernelIdeal.τ Cert.KernelIdeal.sig) → Buf (Elt Ideal) ℓ)
    (c : Dev Cert.KernelIdeal.nD)
    (h : Cert.Pre_finite.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) = fun _ => 1#1) :
    Cert.ReferenceIdeal.Read.val_main_v47 (F := Ideal) (m (c.tc.loc Cert.KernelIdeal.main_arg0)) (m (c.tc.loc Cert.KernelIdeal.main_arg1))
      (m (c.tc.loc Cert.KernelIdeal.main_arg2)) = (Cert.KernelIdeal.Gen.dats m 0 c).arrAt 4 Cert.KernelIdeal.cfg0.N := by
  obtain ⟨rQ, rK, rG, rH⟩ := Cert.Finite.of_pre _ _ _ _ _ h
  funext i
  have hi : i = ix3 (i 0) (i 1) (i 2) := funext fun a => by
    match a with
    | ⟨0, _⟩ => rfl
    | ⟨1, _⟩ => rfl
    | ⟨2, _⟩ => rfl
  rw [hi]
  exact (Cert.ReferenceIdeal.Att.reference_avg _ _ _ rQ rK (i 0) (i 1) (i 2)).trans
    (Cert.KernelIdeal.Att.kernel_avg m c _ _ _ _ _ rfl rfl rfl rfl rfl rQ rK rG rH (i 0) (i 1) (i 2)).symm

theorem algebraic : Cert.algebraic_KernelIdeal_ReferenceIdeal_pre_finite := by
  intro m g m' g' hpre hagree
  refine ⟨fun c => (Cert.KernelIdeal.Gen.dats m 0 c).arrAt 4 Cert.KernelIdeal.cfg0.N, Cert.KernelIdeal.Value.run_blocks m g, ?_⟩
  refine (θ_run (Cert.ReferenceIdeal.defs (F := Ideal)) _ _).mono (fun r h c => ⟨(h c).1.trans ?_, (h c).2⟩) (Cert.ReferenceIdeal.Value.run (F := Ideal) m' g')
  obtain ⟨e0, e1, e2, -, -⟩ := hagree c
  rw [Cert.ReferenceIdeal.Read.val_main_v47_eq, e0, e1, e2]
  exact results_eq m c (hpre c)

/-- The merge's reference runs and leaves its arguments unchanged. -/
theorem frame_reference2 : Cert.quiescent_Reference2Ideal := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

/-- The projection's reference runs and leaves its arguments unchanged. -/
theorem frame_reference3 : Cert.quiescent_Reference3Ideal := fun m g _ =>
  (θ_run (Cert.Reference3Ideal.defs (F := Ideal)) _ _).mono (fun r h => ⟨fun c => (h c).2.2.2, sem_eq_zero_of_no_sems (by decide) r.2⟩)
    (Cert.Reference3Ideal.Value.run (F := Ideal) m g)

theorem algebraic2 : Cert.algebraic_Kernel2Ideal_Reference2Ideal := by
  intro m g m' g' _ hagree
  refine ⟨fun c => (Cert.Kernel2Ideal.Gen.dats m 0 c).arrAt 9 Cert.Kernel2Ideal.cfg0.N, Cert.Kernel2Ideal.Value.run_blocks m g, ?_⟩
  refine (θ_run (Cert.Reference2Ideal.defs (F := Ideal)) _ _).mono (fun r h c => ⟨(h c).1.trans ?_, (h c).2⟩) (Cert.Reference2Ideal.Value.run (F := Ideal) m' g')
  obtain ⟨e0, e1, e2, e3, e4, e5, e6, e7, e8⟩ := hagree c
  rw [Cert.Reference2Ideal.Read.val_main_v51_eq, e0, e1, e2, e3, e4, e5, e6, e7, e8]
  exact Cert.Layer.merge_eq m c

theorem algebraic3 : Cert.algebraic_Kernel3Ideal_Reference3Ideal := by
  intro m g m' g' _ hagree
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, Cert.Kernel3Ideal.Value.run_blocks m g, ?_⟩
  refine (θ_run (Cert.Reference3Ideal.defs (F := Ideal)) _ _).mono (fun r h c => ⟨(h c).1.trans ?_, (h c).2.1.trans ?_, (h c).2.2.1.trans ?_, (h c).2.2.2⟩) (Cert.Reference3Ideal.Value.run (F := Ideal) m' g')
  · obtain ⟨e0, e1, e2, -⟩ := hagree c
    rw [Cert.Reference3Ideal.Read.val_main_v68_eq, e0, e1, e2]
    exact Cert.Layer.y_eq m c
  · obtain ⟨e0, e1, e2, -⟩ := hagree c
    rw [Cert.Reference3Ideal.Read.val_main_v71_eq, e0, e1, e2]
    exact Cert.Layer.kt_eq m c
  · obtain ⟨e0, e1, e2, e3⟩ := hagree c
    rw [Cert.Reference3Ideal.Read.val_main_v73_eq, e0, e1, e2, e3]
    exact Cert.Layer.g_eq m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  trivial, algebraic, trivial, algebraic2, trivial, algebraic3⟩

end Cert.Proof

end
